-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_routable [hKernelIdeal : Cert.KernelIdeal.Facts] [hReferenceIdeal : Cert.ReferenceIdeal.Facts] [hOn_routable : Cert.On_routable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![4096]⟩ (Layout.meshBlock [2, 4, 4] ![[2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 512]⟩ : Shape).Idx, (Layout.blockN ⟨2, ![1024, 512]⟩ ⟨2, ![4096, 512]⟩ (Layout.meshBlock [2, 4, 4] ![[2], []] c) ((Cert.On_routable.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 512]⟩ : Shape).Idx → _) i = 1#1 → r.2.mem ((c.tc : Thread Cert.KernelIdeal.nD Cert.KernelIdeal.τ).loc Cert.KernelIdeal.main_v3) i = (Layout.blockN ⟨2, ![1024, 512]⟩ ⟨2, ![4096, 512]⟩ (Layout.meshBlock [2, 4, 4] ![[2], []] c) v0 : (⟨2, ![1024, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 512]⟩ : Shape).Idx, (Cert.On_routable.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_routable : Cert.On_routable.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_routable (hKernelIdeal := hKernelIdeal) (hReferenceIdeal := hReferenceIdeal) (hOn_routable := hOn_routable)
-- ==== On_routable.lean ====
abbrev S4096x512 : Shape := ⟨2, ![4096, 512]⟩
abbrev S4096 : Shape := ⟨1, ![4096]⟩
abbrev S_ : Shape := ⟨0, ![]⟩
abbrev S1 : Shape := ⟨1, ![1]⟩
abbrev S4 : Shape := ⟨1, ![4]⟩
abbrev S4x1024 : Shape := ⟨2, ![4, 1024]⟩
abbrev S16 : Shape := ⟨1, ![16]⟩

class Facts : Prop where
  bcast_S_S4096 : S_.BroadcastsInDim S4096 (![] : Fin 0 → Fin S4096.rank)
  natLt_1_32 : 1 < 32
  reducesTo_S4096_S_d0 : S4096.ReducesTo [0] S_
  h_S_ : 0 < S_.numel
  shapeCasts_S_S1 : S_.ShapeCasts S1
  concatenates_S1_S1_S1_S1_S4_d0 : Shape.Concatenates [S1, S1, S1, S1] S4 0
  shapeCasts_S4096_S4x1024 : S4096.ShapeCasts S4x1024
  bcast_S_S4x1024 : S_.BroadcastsInDim S4x1024 (![] : Fin 0 → Fin S4x1024.rank)
  reducesTo_S4x1024_S4_d1 : S4x1024.ReducesTo [1] S4
  concatenates_S4_S4_S4_S4_S16_d0 : Shape.Concatenates [S4, S4, S4, S4] S16 0
  bcast_S_S4 : S_.BroadcastsInDim S4 (![] : Fin 0 → Fin S4.rank)
  reducesTo_S4_S_d0 : S4.ReducesTo [0] S_
  bcast_S_S16 : S_.BroadcastsInDim S16 (![] : Fin 0 → Fin S16.rank)
  reducesTo_S16_S_d0 : S16.ReducesTo [0] S_
  bcast_S_S4096x512 : S_.BroadcastsInDim S4096x512 (![] : Fin 0 → Fin S4096x512.rank)

variable [Facts]

def fn_part3 {F : FTy → Type} [FloatOps F] (main_v38 : IVec S16 32) (main_v49 : IVec S_ 1) : IVec S4096x512 1 :=
  let main_c_21 : IVec S_ 32 := constantI S_ 32 288#32
  let main_v50 : IVec S16 32 := broadcastInDim S16 ![] bcast_S_S16 main_c_21
  let main_v51 : IVec S16 1 := cmpi .sle main_v38 main_v50
  let main_c_22 : IVec S_ 1 := constantI S_ 1 1#1
  let main_v52 : IVec S_ 1 := (fun x v => Host.reduce IntOp.andi x v reducesTo_S16_S_d0 h_S_) main_v51 main_c_22
  let main_v53 : IVec S_ 1 := andi main_v49 main_v52
  let main_v54 : IVec S4096x512 1 := broadcastInDim S4096x512 ![] bcast_S_S4096x512 main_v53
  main_v54

def fn_part2 {F : FTy → Type} [FloatOps F] (main_arg1 : IVec S4096 32) (main_v20 : IVec S4 32) (main_v21 : IVec S4x1024 32) (main_v25 : IVec S4 32) (main_v29 : IVec S4 32) (main_v33 : IVec S4 32) : IVec S4096x512 1 :=
  let main_c_13 : IVec S_ 32 := constantI S_ 32 3#32
  let main_v34 : IVec S4x1024 32 := broadcastInDim S4x1024 ![] bcast_S_S4x1024 main_c_13
  let main_v35 : IVec S4x1024 1 := cmpi .eq main_v21 main_v34
  let main_v36 : IVec S4x1024 32 := (extui 32 · natLt_1_32) main_v35
  let main_c_14 : IVec S_ 32 := constantI S_ 32 0#32
  let main_v37 : IVec S4 32 := (fun x v => Host.reduce IntOp.addi x v reducesTo_S4x1024_S4_d1 h_S_) main_v36 main_c_14
  let main_v38 : IVec S16 32 := concatenate S16 0 [⟨S4, main_v25⟩, ⟨S4, main_v29⟩, ⟨S4, main_v33⟩, ⟨S4, main_v37⟩] concatenates_S4_S4_S4_S4_S16_d0
  let main_c_15 : IVec S_ 32 := constantI S_ 32 0#32
  let main_v39 : IVec S4096 32 := broadcastInDim S4096 ![] bcast_S_S4096 main_c_15
  let main_v40 : IVec S4096 1 := cmpi .sge main_arg1 main_v39
  let main_c_16 : IVec S_ 1 := constantI S_ 1 1#1
  let main_v41 : IVec S_ 1 := (fun x v => Host.reduce IntOp.andi x v reducesTo_S4096_S_d0 h_S_) main_v40 main_c_16
  let main_c_17 : IVec S_ 32 := constantI S_ 32 4#32
  let main_v42 : IVec S4096 32 := broadcastInDim S4096 ![] bcast_S_S4096 main_c_17
  let main_v43 : IVec S4096 1 := cmpi .slt main_arg1 main_v42
  let main_c_18 : IVec S_ 1 := constantI S_ 1 1#1
  let main_v44 : IVec S_ 1 := (fun x v => Host.reduce IntOp.andi x v reducesTo_S4096_S_d0 h_S_) main_v43 main_c_18
  let main_v45 : IVec S_ 1 := andi main_v41 main_v44
  let main_c_19 : IVec S_ 32 := constantI S_ 32 1024#32
  let main_v46 : IVec S4 32 := broadcastInDim S4 ![] bcast_S_S4 main_c_19
  let main_v47 : IVec S4 1 := cmpi .eq main_v20 main_v46
  let main_c_20 : IVec S_ 1 := constantI S_ 1 1#1
  let main_v48 : IVec S_ 1 := (fun x v => Host.reduce IntOp.andi x v reducesTo_S4_S_d0 h_S_) main_v47 main_c_20
  let main_v49 : IVec S_ 1 := andi main_v45 main_v48
  fn_part3 (F := F) main_v38 main_v49

def fn_part1 {F : FTy → Type} [FloatOps F] (main_arg1 : IVec S4096 32) (main_v4 : IVec S1 32) (main_v9 : IVec S1 32) (main_v14 : IVec S1 32) (main_v16 : IVec S4096 1) : IVec S4096x512 1 :=
  let main_v17 : IVec S4096 32 := (extui 32 · natLt_1_32) main_v16
  let main_c_6 : IVec S_ 32 := constantI S_ 32 0#32
  let main_v18 : IVec S_ 32 := (fun x v => Host.reduce IntOp.addi x v reducesTo_S4096_S_d0 h_S_) main_v17 main_c_6
  let main_v19 : IVec S1 32 := shapeCast S1 main_v18 shapeCasts_S_S1
  let main_v20 : IVec S4 32 := concatenate S4 0 [⟨S1, main_v4⟩, ⟨S1, main_v9⟩, ⟨S1, main_v14⟩, ⟨S1, main_v19⟩] concatenates_S1_S1_S1_S1_S4_d0
  let main_v21 : IVec S4x1024 32 := shapeCast S4x1024 main_arg1 shapeCasts_S4096_S4x1024
  let main_c_7 : IVec S_ 32 := constantI S_ 32 0#32
  let main_v22 : IVec S4x1024 32 := broadcastInDim S4x1024 ![] bcast_S_S4x1024 main_c_7
  let main_v23 : IVec S4x1024 1 := cmpi .eq main_v21 main_v22
  let main_v24 : IVec S4x1024 32 := (extui 32 · natLt_1_32) main_v23
  let main_c_8 : IVec S_ 32 := constantI S_ 32 0#32
  let main_v25 : IVec S4 32 := (fun x v => Host.reduce IntOp.addi x v reducesTo_S4x1024_S4_d1 h_S_) main_v24 main_c_8
  let main_c_9 : IVec S_ 32 := constantI S_ 32 1#32
  let main_v26 : IVec S4x1024 32 := broadcastInDim S4x1024 ![] bcast_S_S4x1024 main_c_9
  let main_v27 : IVec S4x1024 1 := cmpi .eq main_v21 main_v26
  let main_v28 : IVec S4x1024 32 := (extui 32 · natLt_1_32) main_v27
  let main_c_10 : IVec S_ 32 := constantI S_ 32 0#32
  let main_v29 : IVec S4 32 := (fun x v => Host.reduce IntOp.addi x v reducesTo_S4x1024_S4_d1 h_S_) main_v28 main_c_10
  let main_c_11 : IVec S_ 32 := constantI S_ 32 2#32
  let main_v30 : IVec S4x1024 32 := broadcastInDim S4x1024 ![] bcast_S_S4x1024 main_c_11
  let main_v31 : IVec S4x1024 1 := cmpi .eq main_v21 main_v30
  let main_v32 : IVec S4x1024 32 := (extui 32 · natLt_1_32) main_v31
  let main_c_12 : IVec S_ 32 := constantI S_ 32 0#32
  let main_v33 : IVec S4 32 := (fun x v => Host.reduce IntOp.addi x v reducesTo_S4x1024_S4_d1 h_S_) main_v32 main_c_12
  fn_part2 (F := F) main_arg1 main_v20 main_v21 main_v25 main_v29 main_v33

def fn {F : FTy → Type} [FloatOps F] (main_arg0 : FVec F S4096x512 .bf16) (main_arg1 : IVec S4096 32) : IVec S4096x512 1 :=
  let main_c : IVec S_ 32 := constantI S_ 32 0#32
  let main_v0 : IVec S4096 32 := broadcastInDim S4096 ![] bcast_S_S4096 main_c
  let main_v1 : IVec S4096 1 := cmpi .eq main_arg1 main_v0
  let main_v2 : IVec S4096 32 := (extui 32 · natLt_1_32) main_v1
  let main_c_0 : IVec S_ 32 := constantI S_ 32 0#32
  let main_v3 : IVec S_ 32 := (fun x v => Host.reduce IntOp.addi x v reducesTo_S4096_S_d0 h_S_) main_v2 main_c_0
  let main_v4 : IVec S1 32 := shapeCast S1 main_v3 shapeCasts_S_S1
  let main_c_1 : IVec S_ 32 := constantI S_ 32 1#32
  let main_v5 : IVec S4096 32 := broadcastInDim S4096 ![] bcast_S_S4096 main_c_1
  let main_v6 : IVec S4096 1 := cmpi .eq main_arg1 main_v5
  let main_v7 : IVec S4096 32 := (extui 32 · natLt_1_32) main_v6
  let main_c_2 : IVec S_ 32 := constantI S_ 32 0#32
  let main_v8 : IVec S_ 32 := (fun x v => Host.reduce IntOp.addi x v reducesTo_S4096_S_d0 h_S_) main_v7 main_c_2
  let main_v9 : IVec S1 32 := shapeCast S1 main_v8 shapeCasts_S_S1
  let main_c_3 : IVec S_ 32 := constantI S_ 32 2#32
  let main_v10 : IVec S4096 32 := broadcastInDim S4096 ![] bcast_S_S4096 main_c_3
  let main_v11 : IVec S4096 1 := cmpi .eq main_arg1 main_v10
  let main_v12 : IVec S4096 32 := (extui 32 · natLt_1_32) main_v11
  let main_c_4 : IVec S_ 32 := constantI S_ 32 0#32
  let main_v13 : IVec S_ 32 := (fun x v => Host.reduce IntOp.addi x v reducesTo_S4096_S_d0 h_S_) main_v12 main_c_4
  let main_v14 : IVec S1 32 := shapeCast S1 main_v13 shapeCasts_S_S1
  let main_c_5 : IVec S_ 32 := constantI S_ 32 3#32
  let main_v15 : IVec S4096 32 := broadcastInDim S4096 ![] bcast_S_S4096 main_c_5
  let main_v16 : IVec S4096 1 := cmpi .eq main_arg1 main_v15
  fn_part1 (F := F) main_arg1 main_v4 main_v9 main_v14 main_v16
-- ==== Kernel.lean ====
abbrev S1024x512 : Shape := ⟨2, ![1024, 512]⟩
abbrev S1024 : Shape := ⟨1, ![1024]⟩
abbrev S1x1024 : Shape := ⟨2, ![1, 1024]⟩
abbrev S1024x1 : Shape := ⟨2, ![1024, 1]⟩
abbrev S1152x512 : Shape := ⟨2, ![1152, 512]⟩
abbrev S1x128 : Shape := ⟨2, ![1, 128]⟩
abbrev S4x1x128 : Shape := ⟨3, ![4, 1, 128]⟩
abbrev S4 : Shape := ⟨1, ![4]⟩
abbrev S_ : Shape := ⟨0, ![]⟩
abbrev S1024x128 : Shape := ⟨2, ![1024, 128]⟩
abbrev S128 : Shape := ⟨1, ![128]⟩
abbrev S1x1x128 : Shape := ⟨3, ![1, 1, 128]⟩
abbrev S1024x1024 : Shape := ⟨2, ![1024, 1024]⟩
abbrev S8x1024 : Shape := ⟨2, ![8, 1024]⟩
abbrev S288x1024 : Shape := ⟨2, ![288, 1024]⟩
abbrev S1 : Shape := ⟨1, ![1]⟩
abbrev S288x512 : Shape := ⟨2, ![288, 512]⟩
abbrev S1x1x1 : Shape := ⟨3, ![1, 1, 1]⟩
abbrev S1024x288 : Shape := ⟨2, ![1024, 288]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S1x1024, .i32⟩
  | .hbm, ⟨3, _⟩ => ⟨S1024x1, .i32⟩
  | .hbm, ⟨4, _⟩ => ⟨S1024x512, .f32⟩
  | .local _ .vmem, ⟨0, _⟩ => ⟨S1024x512, .bf16⟩
  | .local _ .vmem, ⟨1, _⟩ => ⟨S1x1024, .i32⟩
  | .local _ .vmem, ⟨2, _⟩ => ⟨S1024x1, .i32⟩
  | .local _ .vmem, ⟨3, _⟩ => ⟨S1024x512, .f32⟩
  | .local _ .vmem, ⟨4, _⟩ => ⟨S1152x512, .bf16⟩
  | .local _ .vmem, ⟨5, _⟩ => ⟨S1152x512, .bf16⟩
  | .local _ .vmem, ⟨6, _⟩ => ⟨S1x128, .i32⟩
  | .local _ .vmem, ⟨7, _⟩ => ⟨S4x1x128, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v12 : BitVec 32 := Scalar.muli v2 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let v11 : BitVec 32 := Scalar.remsi v10 c4_i32_3
  let c1_i32_7 : BitVec 32 := 1#32
  let v16 : BitVec 32 := Scalar.muli v11 c1_i32_7
  let v17 : BitVec 32 := Scalar.addi v15 v16
  v17.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v20 : BitVec 32 := Scalar.muli v2 c16_i32_11
  let v21 : BitVec 32 := Scalar.addi c0_i32_12 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v18 : BitVec 32 := Scalar.addi v8 c2_i32_8
  let c4_i32_9 : BitVec 32 := 4#32
  let v19 : BitVec 32 := Scalar.remsi v18 c4_i32_9
  let c1_i32_14 : BitVec 32 := 1#32
  let v24 : BitVec 32 := Scalar.muli v19 c1_i32_14
  let v25 : BitVec 32 := Scalar.addi v23 v24
  v25.toNat
def k0_dev3 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v28 : BitVec 32 := Scalar.muli v2 c16_i32_17
  let v29 : BitVec 32 := Scalar.addi c0_i32_18 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 32 := Scalar.addi v8 c3_i32
  let c4_i32_15 : BitVec 32 := 4#32
  let v27 : BitVec 32 := Scalar.remsi v26 c4_i32_15
  let c1_i32_20 : BitVec 32 := 1#32
  let v32 : BitVec 32 := Scalar.muli v27 c1_i32_20
  let v33 : BitVec 32 := Scalar.addi v31 v32
  v33.toNat
def k0_off1 (d0 : Dev nD) (c1_i32_47 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v104 : BitVec 32 := Scalar.addi v8 c1_i32_47
  let c4_i32_48 : BitVec 32 := 4#32
  let v105 : BitVec 32 := Scalar.remsi v104 c4_i32_48
  ![v105.toNat]
def k0_off2 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off3 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_53 : BitVec 32 := 0#32
  let c0_i32_54 : BitVec 32 := 0#32
  ![v8.toNat, 0, 0]
def k0_dev4 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v106 : BitVec 32 := Scalar.muli v2 c16_i32_49
  let v107 : BitVec 32 := Scalar.addi c0_i32_50 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v108 : BitVec 32 := Scalar.muli v5 c4_i32_51
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v104 : BitVec 32 := Scalar.addi v8 c1_i32_47
  let c4_i32_48 : BitVec 32 := 4#32
  let v105 : BitVec 32 := Scalar.remsi v104 c4_i32_48
  let c1_i32_52 : BitVec 32 := 1#32
  let v110 : BitVec 32 := Scalar.muli v105 c1_i32_52
  let v111 : BitVec 32 := Scalar.addi v109 v110
  v111.toNat
def k0_dev5 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v120 : BitVec 32 := Scalar.muli v2 c16_i32_57
  let v121 : BitVec 32 := Scalar.addi c0_i32_58 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v122 : BitVec 32 := Scalar.muli v5 c4_i32_59
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_55 : BitVec 32 := 2#32
  let v118 : BitVec 32 := Scalar.addi v8 c2_i32_55
  let c4_i32_56 : BitVec 32 := 4#32
  let v119 : BitVec 32 := Scalar.remsi v118 c4_i32_56
  let c1_i32_60 : BitVec 32 := 1#32
  let v124 : BitVec 32 := Scalar.muli v119 c1_i32_60
  let v125 : BitVec 32 := Scalar.addi v123 v124
  v125.toNat
def k0_dev6 (d0 : Dev nD) : Nat :=
  let c0_i32_66 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_65 : BitVec 32 := 16#32
  let v134 : BitVec 32 := Scalar.muli v2 c16_i32_65
  let v135 : BitVec 32 := Scalar.addi c0_i32_66 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v136 : BitVec 32 := Scalar.muli v5 c4_i32_67
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_63 : BitVec 32 := 3#32
  let v132 : BitVec 32 := Scalar.addi v8 c3_i32_63
  let c4_i32_64 : BitVec 32 := 4#32
  let v133 : BitVec 32 := Scalar.remsi v132 c4_i32_64
  let c1_i32_68 : BitVec 32 := 1#32
  let v138 : BitVec 32 := Scalar.muli v133 c1_i32_68
  let v139 : BitVec 32 := Scalar.addi v137 v138
  v139.toNat
def k0_off4 (d0 : Dev nD) (c1_i32_71 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v146 : BitVec 32 := Scalar.addi v8 c1_i32_71
  let c4_i32_72 : BitVec 32 := 4#32
  let v147 : BitVec 32 := Scalar.remsi v146 c4_i32_72
  let c288_i32_75 : BitVec 32 := 288#32
  let v158 : BitVec 32 := Scalar.muli v147 c288_i32_75
  let v159 : Index := Scalar.indexCast v158
  let c0_76 : Index := 0#32
  ![v159.toNat, 0]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c288_i32_78 : BitVec 32 := 288#32
  let v164 : BitVec 32 := Scalar.muli v8 c288_i32_78
  let c0_i32_83 : BitVec 32 := 0#32
  ![v164.toNat, 0]
def k0_off6 (d0 : Dev nD) (c1_i32_71 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v146 : BitVec 32 := Scalar.addi v8 c1_i32_71
  let c4_i32_72 : BitVec 32 := 4#32
  let v147 : BitVec 32 := Scalar.remsi v146 c4_i32_72
  let c288_i32_77 : BitVec 32 := 288#32
  let v163 : BitVec 32 := Scalar.muli v147 c288_i32_77
  let c0_i32_84 : BitVec 32 := 0#32
  ![v163.toNat, 0]
def k0_dev7 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v165 : BitVec 32 := Scalar.muli v2 c16_i32_79
  let v166 : BitVec 32 := Scalar.addi c0_i32_80 v165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_81 : BitVec 32 := 4#32
  let v167 : BitVec 32 := Scalar.muli v5 c4_i32_81
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v146 : BitVec 32 := Scalar.addi v8 c1_i32_71
  let c4_i32_72 : BitVec 32 := 4#32
  let v147 : BitVec 32 := Scalar.remsi v146 c4_i32_72
  let c1_i32_82 : BitVec 32 := 1#32
  let v169 : BitVec 32 := Scalar.muli v147 c1_i32_82
  let v170 : BitVec 32 := Scalar.addi v168 v169
  v170.toNat
def k0_dev8 (d0 : Dev nD) : Nat :=
  let c0_i32_94 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_93 : BitVec 32 := 16#32
  let v196 : BitVec 32 := Scalar.muli v2 c16_i32_93
  let v197 : BitVec 32 := Scalar.addi c0_i32_94 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_95 : BitVec 32 := 4#32
  let v198 : BitVec 32 := Scalar.muli v5 c4_i32_95
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_85 : BitVec 32 := 2#32
  let v177 : BitVec 32 := Scalar.addi v8 c2_i32_85
  let c4_i32_86 : BitVec 32 := 4#32
  let v178 : BitVec 32 := Scalar.remsi v177 c4_i32_86
  let c1_i32_96 : BitVec 32 := 1#32
  let v200 : BitVec 32 := Scalar.muli v178 c1_i32_96
  let v201 : BitVec 32 := Scalar.addi v199 v200
  v201.toNat
def k0_dev9 (d0 : Dev nD) : Nat :=
  let c0_i32_108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_107 : BitVec 32 := 16#32
  let v227 : BitVec 32 := Scalar.muli v2 c16_i32_107
  let v228 : BitVec 32 := Scalar.addi c0_i32_108 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_109 : BitVec 32 := 4#32
  let v229 : BitVec 32 := Scalar.muli v5 c4_i32_109
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_99 : BitVec 32 := 3#32
  let v208 : BitVec 32 := Scalar.addi v8 c3_i32_99
  let c4_i32_100 : BitVec 32 := 4#32
  let v209 : BitVec 32 := Scalar.remsi v208 c4_i32_100
  let c1_i32_110 : BitVec 32 := 1#32
  let v231 : BitVec 32 := Scalar.muli v209 c1_i32_110
  let v232 : BitVec 32 := Scalar.addi v230 v231
  v232.toNat
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c288_i32_115 : BitVec 32 := 288#32
  let v249 : BitVec 32 := Scalar.muli v8 c288_i32_115
  let v250 : Index := Scalar.indexCast v249
  let c0_116 : Index := 0#32
  ![v250.toNat, 0]
def k0_off8 (d0 : Dev nD) (c1_i32_117 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v254 : BitVec 32 := Scalar.addi v8 c1_i32_117
  let c4_i32_118 : BitVec 32 := 4#32
  let v255 : BitVec 32 := Scalar.remsi v254 c4_i32_118
  let c0_i32_123 : BitVec 32 := 0#32
  let c0_i32_124 : BitVec 32 := 0#32
  ![v255.toNat, 0, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩

abbrev nBuf : Space → Nat
  | .hbm => 15
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x512, .bf16⟩
  | .hbm, ⟨14, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Protocol.lean ====
/-
The protocol of the exchange: who signals whom, which copy pays which semaphore, and what each payment hands over.

Four devices of one group (the four places on the mesh's last axis) exchange blocks. Each device first tells the other three
that its receiving buffers may be written, then sends each of them a row of counts and a block of rows.
-/
module

public import proofs.«01_k».proof.Proof.Gen.KernelIdeal.Frame
public import proofs.«01_k».proof.Proof.Gen.KernelIdeal.Skeleton
public import Idealize.ShloMosaic.Lib.Rounds
public import Idealize.ShloMosaic.Lib.Rounds.Family
public import Idealize.ShloMosaic.Lib.MemrefSat
public import Idealize.ShloMosaic.Lib.Pipeline.RegionTalk

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Places in a group -/

/-- The place of a device in its group of four. -/
def place (c : Dev nD) : Fin 4 := ⟨c.val % 4, Nat.mod_lt _ (by decide)⟩
/-- The device at place `s` of `c`'s group. -/
def mate (c : Dev nD) (s : Fin 4) : Dev nD := ⟨4 * (c.val / 4) + s.val, by have : c.val < 32 := c.isLt; have := s.isLt; show _ < 32; omega⟩
/-- The `k`-th of the three other places, counted cyclically from the own one. -/
def other (c : Dev nD) (k : Fin 3) : Fin 4 := ⟨(c.val % 4 + k.val + 1) % 4, Nat.mod_lt _ (by decide)⟩
/-- The `k`-th of the three other devices of the group. -/
abbrev peer (c : Dev nD) (k : Fin 3) : Dev nD := mate c (other c k)

@[simp] theorem place_mate (c : Dev nD) (s : Fin 4) : place (mate c s) = s :=
  Fin.ext (by have := s.isLt; show (4 * (c.val / 4) + s.val) % 4 = s.val; omega)
@[simp] theorem mate_mate (c : Dev nD) (s t : Fin 4) : mate (mate c s) t = mate c t :=
  Fin.ext (by have := s.isLt; show 4 * ((4 * (c.val / 4) + s.val) / 4) + t.val = 4 * (c.val / 4) + t.val; omega)
@[simp] theorem mate_place (c : Dev nD) : mate c (place c) = c :=
  Fin.ext (by show 4 * (c.val / 4) + c.val % 4 = c.val; omega)
theorem other_ne (c : Dev nD) (k : Fin 3) : other c k ≠ place c := fun h => by
  have h := congrArg Fin.val h; have := k.isLt; simp only [other, place] at h; omega
theorem other_inj (c : Dev nD) {k j : Fin 3} (h : other c k = other c j) : k = j := by
  have h := congrArg Fin.val h; have := k.isLt; have := j.isLt; simp only [other] at h; exact Fin.ext (by omega)

/-- The four places, the own one first. -/
theorem places_eq (c : Dev nD) : (Finset.univ : Finset (Fin 4)) = [place c, other c 0, other c 1, other c 2].toFinset := by
  revert c; decide +kernel
theorem places_nodup (c : Dev nD) : [place c, other c 0, other c 1, other c 2].Nodup := by revert c; decide +kernel
theorem others_eq (c : Dev nD) : (Finset.univ.erase (place c) : Finset (Fin 4)) = [other c 0, other c 1, other c 2].toFinset := by
  revert c; decide +kernel
theorem others_nodup (c : Dev nD) : [other c 0, other c 1, other c 2].Nodup := by revert c; decide +kernel

/-- Swapping the two ends of a connection: (device, place) to (the device there, the place it came from). -/
def swap : Dev nD × Fin 4 ≃ Dev nD × Fin 4 where
  toFun p := (mate p.1 p.2, place p.1)
  invFun p := (mate p.1 p.2, place p.1)
  left_inv p := by simp
  right_inv p := by simp

/-! ## The algebra -/

/-- The pipeline's copy of the rounds algebra and the exchange's own, whose duties are named by a place. -/
abbrev UU : Type := UR sig nD τ × URounds (GSem nD τ sig) (Fin 4)
local notation "𝕄" => MT nD τ sig Unit (Elt F) ℕ UU ℕ
abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Buffers and semaphores -/

/-- The block of 288 rows for (or from) place `s` in a send (or receive) buffer. -/
theorem blk_inb (s : Fin 4) : ∀ i, (![288 * s.val, 0] : Fin 2 → ℕ) i + S288x512.size i ≤ S1152x512.size i := by
  revert s; decide
theorem row_inb (s : Fin 4) : ∀ i, (![s.val, 0, 0] : Fin 3 → ℕ) i + S1x1x128.size i ≤ S4x1x128.size i := by
  revert s; decide
abbrev sBlk (s : Fin 4) : Memref sig .tc .vmem S288x512 .bf16 :=
  (Memref.whole cc0_scratch0 : Memref sig .tc .vmem S1152x512 .bf16).slice (Rect.unit (s := S1152x512) ![288 * s.val, 0] S288x512.size (blk_inb s)) (fun _ => rfl)
abbrev rBlk (s : Fin 4) : Memref sig .tc .vmem S288x512 .bf16 :=
  (Memref.whole cc0_scratch1 : Memref sig .tc .vmem S1152x512 .bf16).slice (Rect.unit (s := S1152x512) ![288 * s.val, 0] S288x512.size (blk_inb s)) (fun _ => rfl)
/-- The device's own row of counts. -/
abbrev cOwn : Memref sig .tc .vmem S1x128 .i32 := Memref.whole cc0_scratch2
/-- The row of counts from place `s`, as a 1x1x128 part of the buffer and as the 1x128 row the copies name. -/
abbrev cPart (s : Fin 4) : Memref sig .tc .vmem S1x1x128 .i32 :=
  (Memref.whole cc0_scratch3 : Memref sig .tc .vmem S4x1x128 .i32).slice (Rect.unit (s := S4x1x128) ![s.val, 0, 0] S1x1x128.size (row_inb s)) (fun _ => rfl)
abbrev cRow (s : Fin 4) : Memref sig .tc .vmem S1x128 .i32 := (cPart s).squeeze S1x128 squeezes_S1x1x128_S1x128

/-- The DMA semaphore of kind `k` for place `i`: kind 0 counts sent, 1 counts received, 2 blocks sent, 3 blocks received. -/
def dsem (k i : Fin 4) : DmaSem sig := ⟨4 * k.val + 4 + i.val, by have := k.isLt; have := i.isLt; show _ < 20; omega⟩
abbrev barS : Sem sig := (SemArray.scalar (sig.barrier 0 rfl) : Sems sig S_).sem
abbrev barCell (c : Dev nD) : GSem nD τ sig := ((c : Thread nD τ), .reg barS)
abbrev dcell (c : Dev nD) (k i : Fin 4) : GSem nD τ sig := ((c : Thread nD τ), .dma (dsem k i))

theorem dsem_inj {k k' i i' : Fin 4} (h : dsem k i = dsem k' i') : k = k' ∧ i = i' := by
  have h := congrArg Fin.val h; simp only [dsem] at h
  have := k.isLt; have := k'.isLt; have := i.isLt; have := i'.isLt
  exact ⟨Fin.ext (by omega), Fin.ext (by omega)⟩

/-- What one count copy and one block copy move. -/
abbrev Nc : ℕ := (cRow 0).view.dmaCredit
abbrev Nb : ℕ := (rBlk 0).view.dmaCredit
theorem Nc_pos : 0 < Nc := View.dmaCredit_pos _ (by decide)
theorem Nb_pos : 0 < Nb := View.dmaCredit_pos _ (by decide)

/-! ## Contents -/

/-- What every device's three inputs hold: the rows, the destinations as a row, the destinations as a column. -/
structure Ins (F : FTy → Type) where
  x : Dev nD → Vec F S1024x512 .bf16
  row : Dev nD → Vec F S1x1024 .i32
  col : Dev nD → Vec F S1024x1 .i32

variable (I : Ins F)

/-- Device `c`'s counts: how many of its rows go to each place. -/
def cnt (c : Dev nD) : Vec F S1x128 .i32 := k0_pay2 (I.col c)
/-- The same counts as a 1x1x128 part. -/
def cnt3 (c : Dev nD) : Vec F S1x1x128 .i32 := k0_pay3 (I.col c)
/-- The key of each of device `c`'s rows: 288 times the destination and the row's rank among those of that destination. -/
def key (c : Dev nD) : IVec S1x1024 32 := k0_pay10 (F := F) (k0_pay7 (I.row c)) k0_pay9
/-- A place as a word. -/
abbrev pw (s : Fin 4) : BitVec 32 := BitVec.ofNat 32 s.val
/-- The block device `c` packs for place `s`. -/
def blk (c : Dev nD) (s : Fin 4) : Vec F S288x512 .bf16 :=
  k0_pay15 (pw s) (k0_pay8 (I.x c)) (key I c) (iota .tc S288x1024 32 [0] iota_S288x1024_d0_w32)

/-! ## The schedule -/

/-- The share of the own counts lent to the copy towards place `s`. -/
def shr : Fin 4 → PosShare TreeShare
  | 0 => fullShare.left.left
  | 1 => fullShare.left.right
  | 2 => fullShare.right.left
  | 3 => fullShare.right.right

/-- Paid to `c`'s barrier by the device at place `s`: its row of counts and its receive block for `c`, at whatever they hold,
    and that its two receiving cells for `c` are open. -/
def barPay (c : Dev nD) (s : Fin 4) : sProp 𝕄 :=
  iprop((∃ Y, owns ((mate c s : Dev nD) : Thread nD τ) (cRow (place c)) fullShare Y)
    ∗ (∃ Y, owns ((mate c s : Dev nD) : Thread nD τ) (rBlk (place c)) fullShare Y)
    ∗ reached ER (dcell (mate c s) 1 (place c)) 0 ∗ reached ER (dcell (mate c s) 3 (place c)) 0)
/-- Paid to `c`'s cell of kind `k` for place `i`: the counts lent, the counts received, the block lent, the block received. -/
def dmaPay (c : Dev nD) (k i : Fin 4) : sProp 𝕄 :=
  match k with
  | 0 => owns (c : Thread nD τ) cOwn (shr i) (cnt I c)
  | 1 => owns (c : Thread nD τ) (cRow i) fullShare (cnt I (mate c i))
  | 2 => owns (c : Thread nD τ) (sBlk i) fullShare (blk I c i)
  | 3 => owns (c : Thread nD τ) (rBlk i) fullShare (blk I (mate c i) (place c))

/-- The kind and the place of a DMA semaphore (kinds as in `dsem`, one up: 0 is the pipeline's own). -/
def kindOf (n : DmaSem sig) : ℕ := n.val / 4
def slotOf (n : DmaSem sig) : Fin 4 := ⟨n.val % 4, Nat.mod_lt _ (by decide)⟩
@[simp] theorem kindOf_dsem (k i : Fin 4) : kindOf (dsem k i) = k.val + 1 := by
  have := i.isLt; show (4 * k.val + 4 + i.val) / 4 = _; omega
@[simp] theorem slotOf_dsem (k i : Fin 4) : slotOf (dsem k i) = i :=
  Fin.ext (by have := i.isLt; show (4 * k.val + 4 + i.val) % 4 = _; omega)

/-- The duties of a cell in round 0: a barrier is signalled by the three others; a DMA cell for another place is paid once. -/
def duties0 (c : Dev nD) : SemLoc sig → Finset (Fin 4)
  | .reg _ => Finset.univ.erase (place c)
  | .dma n => if kindOf n = 0 ∨ slotOf n = place c then ∅ else {0}
def amt : SemLoc sig → ℕ
  | .reg _ => 1
  | .dma n => if kindOf n ≤ 2 then Nc else Nb
def pay (c : Dev nD) : SemLoc sig → Fin 4 → sProp 𝕄
  | .reg _, s => barPay c s
  | .dma n, _ => dmaPay I c ⟨(kindOf n - 1) % 4, Nat.mod_lt _ (by decide)⟩ (slotOf n)

def Rd : Rounds.Schedule (GSem nD τ sig) (Fin 4) 𝕄 where
  duties g r := if r = 0 ∧ g.1.2 = .tc then duties0 g.1.1 g.2 else ∅
  unitless _ := False
  amount g _ _ := amt g.2
  payload g _ d := pay I g.1.1 g.2 d
  amount_pos g _ _ _ := by
    show 0 < amt g.2
    cases g.2 with
    | reg s => exact Nat.one_pos
    | dma n => show 0 < (if kindOf n ≤ 2 then Nc else Nb); split; exacts [Nc_pos, Nb_pos]

instance dmaPay_storable (c : Dev nD) (k i : Fin 4) : BI.Storable (upEmb : UEmb _ 𝕄) (dmaPay I c k i) := by
  unfold dmaPay; split <;> infer_instance
instance barPay_storable (c : Dev nD) (s : Fin 4) : BI.Storable (upEmb : UEmb _ 𝕄) (barPay (F := F) c s) := by
  unfold barPay; infer_instance
instance Rd_storable (g : GSem nD τ sig) (r : ℕ) (d : Fin 4) : BI.Storable (upEmb : UEmb _ 𝕄) ((Rd I).payload g r d) := by
  show BI.Storable upEmb (pay I g.1.1 g.2 d)
  cases g.2 <;> (unfold pay; infer_instance)

/-! ### The schedule read at each cell -/

theorem duties_bar (c : Dev nD) : (Rd I).duties (barCell c) 0 = Finset.univ.erase (place c) := by
  dsimp only [Rd]; exact if_pos ⟨rfl, rfl⟩
theorem duties_dma (c : Dev nD) (k i : Fin 4) (h : i ≠ place c) : (Rd I).duties (dcell c k i) 0 = {0} := by
  dsimp only [Rd]; rw [if_pos ⟨rfl, rfl⟩]; dsimp only [duties0]; rw [if_neg]; simp [h]
theorem duties_own (c : Dev nD) (k : Fin 4) (r : ℕ) : (Rd I).duties (dcell c k (place c)) r = ∅ := by
  dsimp only [Rd, duties0]; split <;> simp
theorem duties_later (g : GSem nD τ sig) (r : ℕ) (h : 1 ≤ r) : (Rd I).duties g r = ∅ := by
  dsimp only [Rd]; exact if_neg fun h' => by omega
theorem amount_bar (c : Dev nD) (d : Fin 4) : (Rd I).amount (barCell c) 0 d = 1 := rfl
/-- What a copy of kind `k` moves. -/
def Nk (k : Fin 4) : ℕ := if k.val + 1 ≤ 2 then Nc else Nb
theorem amount_dma (c : Dev nD) (k i d : Fin 4) : (Rd I).amount (dcell c k i) 0 d = Nk k := by
  dsimp only [Rd, amt, Nk]; rw [kindOf_dsem]
theorem expect_bar (c : Dev nD) : (Rd I).expect (barCell c) 0 = 3 := by
  unfold Schedule.expect Schedule.amountOf; rw [duties_bar]
  rw [Finset.sum_congr rfl fun d _ => amount_bar I c d, Finset.sum_const, Finset.card_erase_of_mem (Finset.mem_univ _)]; rfl
theorem expect_dma (c : Dev nD) (k i : Fin 4) (h : i ≠ place c) : (Rd I).expect (dcell c k i) 0 = Nk k := by
  unfold Schedule.expect Schedule.amountOf; rw [duties_dma I c k i h, Finset.sum_singleton, amount_dma]
theorem payload_bar (c : Dev nD) (d : Fin 4) : (Rd I).payload (barCell c) 0 d = barPay c d := rfl
theorem payload_dma (c : Dev nD) (k i d : Fin 4) : (Rd I).payload (dcell c k i) 0 d = dmaPay I c k i := by
  dsimp only [Rd, pay]; rw [slotOf_dsem]; congr 1
  exact Fin.ext (by have := k.isLt; show (kindOf (dsem k i) - 1) % 4 = k.val; rw [kindOf_dsem]; omega)
theorem rest_bar (c : Dev nD) :
    bigSep ((Rd I).duties (barCell c) 0 \ ∅) (fun u => (Rd I).payload (barCell c) 0 u)
      ⊢ iprop(barPay c (other c 0) ∗ barPay c (other c 1) ∗ barPay c (other c 2)) := by
  rw [Finset.sdiff_empty, duties_bar, bigSep_eq_bigSepL_of_eq _ (others_eq c) (others_nodup c)]
  exact BI.Entails.refl _
theorem rest_dma (c : Dev nD) (k i : Fin 4) (h : i ≠ place c) :
    bigSep ((Rd I).duties (dcell c k i) 0 \ ∅) (fun u => (Rd I).payload (dcell c k i) 0 u) = dmaPay I c k i := by
  rw [Finset.sdiff_empty, duties_dma I c k i h, bigSep_singleton, payload_dma]

/-- A statement of the four places of a device: the own one and the three others. -/
theorem bigSep_places (c : Dev nD) (Φ : Fin 4 → sProp 𝕄) :
    bigSep Finset.univ Φ = iprop(Φ (place c) ∗ Φ (other c 0) ∗ Φ (other c 1) ∗ Φ (other c 2)) := by
  rw [bigSep_eq_bigSepL_of_eq _ (places_eq c) (places_nodup c)]; rfl

/-! ## Debts and levels -/

/-- What is owed by a list of (cell, amount) debts. -/
def owedL : List (GSem nD τ sig × ℕ) → CellTallies nD τ sig Unit
  | [] => 0
  | x :: l => owedL l + tallyAt x.1 () x.2
/-- The debts to the others' barriers, and those of the copies of counts and of blocks, in the order they are paid. -/
def barDebts (c : Dev nD) : List (GSem nD τ sig × ℕ) := [(barCell (peer c 0), 1), (barCell (peer c 1), 1), (barCell (peer c 2), 1)]
abbrev cntDebt (c : Dev nD) (k : Fin 3) : GSem nD τ sig × ℕ := (dcell (peer c k) 1 (place c), Nc)
abbrev blkDebt (c : Dev nD) (k : Fin 3) : GSem nD τ sig × ℕ := (dcell (peer c k) 3 (place c), Nb)
def copyDebts (c : Dev nD) : List (GSem nD τ sig × ℕ) :=
  [cntDebt c 0, cntDebt c 1, cntDebt c 2, blkDebt c 0, blkDebt c 1, blkDebt c 2]
def O₀ (c : Dev nD) : CellTallies nD τ sig Unit := owedL (barDebts c ++ copyDebts c)

theorem owedL_pos {l : List (GSem nD τ sig × ℕ)} {g : GSem nD τ sig} {u : Unit} (h : 0 < owedL l g u) : ∃ x ∈ l, x.1 = g := by
  induction l with
  | nil => exact absurd h (Nat.lt_irrefl 0)
  | cons x l ih =>
    have h' : 0 < owedL l g u + tallyAt x.1 () x.2 g u := h
    rw [tallyAt_apply] at h'
    by_cases hx : g = x.1 ∧ u = ()
    · exact ⟨x, List.mem_cons_self, hx.1.symm⟩
    · rw [if_neg hx] at h'
      obtain ⟨y, hy, e⟩ := ih h'
      exact ⟨y, List.mem_cons_of_mem _ hy, e⟩

def L (g : GSem nD τ sig) : Finset Unit := if g.1.2 = .tc then {()} else ∅
/-- Barrier cells at 1, receiving cells at 2, the rest at 0. -/
def lv (g : GSem nD τ sig) (_ : Unit) : ℕ :=
  match g.2 with
  | .reg _ => 1
  | .dma n => if kindOf n = 2 ∨ kindOf n = 4 then 2 else 0
theorem L_of_ne (g : GSem nD τ sig) (h : g.1.2 ≠ .tc) : L g = ∅ := if_neg h
theorem L_tc (c : Dev nD) (sm : SemLoc sig) : L ((c : Thread nD τ), sm) = {()} := if_pos rfl

/-- Every debt is to a core's own cell, and above level 0; those of the copies are above level 1. -/
theorem debt_tc {c : Dev nD} {x : GSem nD τ sig × ℕ} (h : x ∈ barDebts c ++ copyDebts c) : () ∈ L x.1 ∧ 0 < lv x.1 () := by
  simp only [barDebts, copyDebts, List.mem_append, List.mem_cons, List.not_mem_nil, or_false] at h
  rcases h with (rfl | rfl | rfl) | (rfl | rfl | rfl | rfl | rfl | rfl) <;>
    exact ⟨by rw [L_tc]; exact Finset.mem_singleton_self _, by simp [lv]⟩
theorem debt_copy {c : Dev nD} {x : GSem nD τ sig × ℕ} (h : x ∈ copyDebts c) : () ∈ L x.1 ∧ 1 < lv x.1 () := by
  simp only [copyDebts, List.mem_cons, List.not_mem_nil, or_false] at h
  rcases h with (rfl | rfl | rfl | rfl | rfl | rfl) <;>
    exact ⟨by rw [L_tc]; exact Finset.mem_singleton_self _, by simp [lv]⟩

/-- A device may wait at its barrier while it still owes all its copies. -/
theorem mayWait_bar (c : Dev nD) : (levAts L lv : sProp 𝕄) ⊢ MayWait (c : Thread nD τ) (.reg barS) () (owedL (copyDebts c)) :=
  MayOwe.of_cut (L := L) (lev := lv) 1 (fun p hp => by rw [Finset.mem_singleton.mp hp, L_tc]; exact Finset.mem_singleton_self _)
    (fun g u hg => by obtain ⟨x, hx, rfl⟩ := owedL_pos hg; exact (debt_copy hx).1)
    (fun p hp => by rw [Finset.mem_singleton.mp hp]; exact le_refl 1)
    (fun g u hg => by obtain ⟨x, hx, rfl⟩ := owedL_pos hg; exact (debt_copy hx).2)

abbrev 𝒱₀ : Variants := Variants.none

end Cert.Proof
-- ==== Proof.Steps.lean ====
/-
One rule for each kind of memory operation the kernel makes: a load, a store, a signal, a copy to another device, a wait.
Each is stated once, for a view, a device and a semaphore known only through an equation.
-/
module

public import proofs.«01_k».proof.Proof.Protocol

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

/-- A run of part of the kernel on device `c`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Memory

variable {α : Type} (c : Dev nD)

/-- A load of a part of a buffer whose contents are known. -/
theorem load_part {Q : α → sProp 𝕄} {sh : Shape} {e : EltTy} (m : Memref sig .tc .vmem sh e) {o o' size : Fin sh.rank → ℕ}
    {ho : ∀ i, o i + size i ≤ sh.size i} {ho' : ∀ i, o' i + size i ≤ sh.size i} (h : o = o') {hr}
    {q : PosShare TreeShare} {X : (Rect.unit o' size ho').shape.Idx → Elt F e} {hl : m.view.LoadsAt (Rect.unit o size ho).toLoadRect}
    {k : ((Rect.unit o size ho).shape.Idx → Elt F e) → Prog (TpuEff nD τ sig (Elt F) Λ₀ .tc) α} :
    owns (c : Thread nD τ) (m.slice (Rect.unit o' size ho') hr) q X
      ⊢ iprop((owns (c : Thread nD τ) (m.slice (Rect.unit o' size ho') hr) q X -∗ runs c (k X) Q)
        -∗ runs c (.op (.load m (Rect.unit o size ho).toLoadRect hl) k) Q) := by
  subst h
  unfold owns
  iintro ⟨%f, %hf, H⟩ Hk
  iapply (wp_load_rect 𝒱₀ (c : Thread nD τ) none Set.univ (m := m) (r := Rect.unit o size ho) (q := q) (f := f)
    (S := (m.access (Rect.unit o size ho)).set) subset_rfl) $$ H
  iintro H
  have hf' : (m.access (Rect.unit o size ho)).read (Elt F) f = X := hf
  rw [hf']
  iapply Hk
  iexists f
  isplitr; · ipureintro; exact hf
  iexact H

/-- A store over a part of a buffer. -/
theorem store_part {Q : α → sProp 𝕄} {sh : Shape} {e : EltTy} (m : Memref sig .tc .vmem sh e) {o o' size : Fin sh.rank → ℕ}
    {ho : ∀ i, o i + size i ≤ sh.size i} {ho' : ∀ i, o' i + size i ≤ sh.size i} (h : o = o') {hr}
    {X : (Rect.unit o' size ho').shape.Idx → Elt F e} {w : (Rect.unit o size ho).shape.Idx → Elt F e}
    {hx : (m.access (Rect.unit o size ho)).Stores Finset.univ} {hm}
    {k : PUnit → Prog (TpuEff nD τ sig (Elt F) Λ₀ .tc) α} :
    owns (c : Thread nD τ) (m.slice (Rect.unit o' size ho') hr) fullShare X
      ⊢ iprop((owns (c : Thread nD τ) (m.slice (Rect.unit o' size ho') hr) fullShare w -∗ runs c (k ⟨⟩) Q)
        -∗ runs c (.op (.store m (Rect.unit o size ho) w Finset.univ hx hm) k) Q) := by
  subst h
  unfold owns
  iintro ⟨%f, %hf, H⟩ Hk
  iapply (wp_store 𝒱₀ (c : Thread nD τ) none Set.univ (m := m) (r := Rect.unit o size ho) (f := f) (w := w)
    (S := (m.access (Rect.unit o size ho)).set) subset_rfl) $$ H
  iintro H
  iapply Hk
  iexists _
  isplitr
  · ipureintro; exact View.read_write_univ (v := m.access (Rect.unit o size ho)) f w
  iexact H

/-- A load of a whole buffer. -/
theorem load_full {Q : α → sProp 𝕄} {i : Fin (sig.nNear .tc .vmem)} {hκ : sig.names .tc .vmem i = true} {o : Fin (sig.tyNear .tc .vmem i).shape.rank → ℕ} (h : o = fun _ => 0) {ho} {q : PosShare TreeShare}
    {f : (sig.tyNear .tc .vmem i).Contents (Elt F)} {hl : (Memref.whole ⟨.vmem, i, hκ⟩).view.LoadsAt (Rect.unit o (sig.tyNear .tc .vmem i).shape.size ho).toLoadRect}
    {k : ((sig.tyNear .tc .vmem i).Contents (Elt F)) → Prog (TpuEff nD τ sig (Elt F) Λ₀ .tc) α} :
    owns (c : Thread nD τ) (Memref.whole ⟨.vmem, i, hκ⟩) q f
      ⊢ iprop((owns (c : Thread nD τ) (Memref.whole ⟨.vmem, i, hκ⟩) q f -∗ runs c (k f) Q)
        -∗ runs c (.op (.load (Memref.whole ⟨.vmem, i, hκ⟩) (Rect.unit o (sig.tyNear .tc .vmem i).shape.size ho).toLoadRect hl) k) Q) := by
  rw [owns_whole]
  iintro H Hk
  iapply (wp_load_rect 𝒱₀ (c : Thread nD τ) none Set.univ (m := Memref.whole ⟨.vmem, i, hκ⟩) (r := Rect.unit o (sig.tyNear .tc .vmem i).shape.size ho) (q := q) (f := f)
    (S := Finset.univ) (Finset.subset_univ _)) $$ H
  rw [Memref.read_access_unit_zero (Elt F) ⟨.vmem, i, hκ⟩ h]
  iexact Hk

/-- A store over a whole buffer. -/
theorem store_full {Q : α → sProp 𝕄} {i : Fin (sig.nNear .tc .vmem)} {hκ : sig.names .tc .vmem i = true} {o : Fin (sig.tyNear .tc .vmem i).shape.rank → ℕ} (h : o = fun _ => 0) {ho}
    {f w : (sig.tyNear .tc .vmem i).Contents (Elt F)} {hx : ((Memref.whole ⟨.vmem, i, hκ⟩).access (Rect.unit o (sig.tyNear .tc .vmem i).shape.size ho)).Stores Finset.univ} {hm}
    {k : PUnit → Prog (TpuEff nD τ sig (Elt F) Λ₀ .tc) α} :
    owns (c : Thread nD τ) (Memref.whole ⟨.vmem, i, hκ⟩) fullShare f
      ⊢ iprop((owns (c : Thread nD τ) (Memref.whole ⟨.vmem, i, hκ⟩) fullShare w -∗ runs c (k ⟨⟩) Q)
        -∗ runs c (.op (.store (Memref.whole ⟨.vmem, i, hκ⟩) (Rect.unit o (sig.tyNear .tc .vmem i).shape.size ho) w Finset.univ hx hm) k) Q) := by
  rw [owns_whole, owns_whole]
  iintro H Hk
  iapply (wp_store 𝒱₀ (c : Thread nD τ) none Set.univ (m := Memref.whole ⟨.vmem, i, hκ⟩) (r := Rect.unit o (sig.tyNear .tc .vmem i).shape.size ho) (f := f) (w := w)
    (S := Finset.univ) (Finset.subset_univ _)) $$ H
  rw [Memref.write_access_unit_zero_univ (Elt F) ⟨.vmem, i, hκ⟩ h]
  iexact Hk

end Memory

/-! ## A row of counts, as a part of the buffer and as a row -/

/-- The row read as a part: the same words at the same row-major places. -/
def asPart (X : Vec F S1x128 .i32) : Vec F S1x1x128 .i32 :=
  fun j => X ((Shape.reshapeEquiv squeezes_S1x1x128_S1x128.numel_eq).symm j)

theorem row_part (c : Dev nD) (s : Fin 4) (q : PosShare TreeShare) (X : Vec F S1x128 .i32) :
    (owns (c : Thread nD τ) (cRow s) q X : sProp 𝕄) ⊢ owns (c : Thread nD τ) (cPart s) q (asPart X) := by
  unfold owns
  iintro ⟨%f, %hf, H⟩
  iexists f
  isplitr
  · ipureintro
    funext j
    subst hf
    show _ = (cPart s).view.read (Elt F) f ((Shape.reshapeEquiv squeezes_S1x1x128_S1x128.numel_eq) ((Shape.reshapeEquiv squeezes_S1x1x128_S1x128.numel_eq).symm j))
    rw [Equiv.apply_symm_apply]
  have hs : (cRow s).view.set = (cPart s).view.set := View.set_reshape _ _
  rw [hs]; iexact H
theorem part_row (c : Dev nD) (s : Fin 4) (q : PosShare TreeShare) (X : Vec F S1x128 .i32) :
    (owns (c : Thread nD τ) (cPart s) q (asPart X) : sProp 𝕄) ⊢ owns (c : Thread nD τ) (cRow s) q X := by
  unfold owns
  iintro ⟨%f, %hf, H⟩
  iexists f
  isplitr
  · ipureintro
    funext j
    show (cPart s).view.read (Elt F) f ((Shape.reshapeEquiv squeezes_S1x1x128_S1x128.numel_eq) j) = X j
    rw [hf]; unfold asPart; rw [Equiv.symm_apply_apply]
  have hs : (cRow s).view.set = (cPart s).view.set := View.set_reshape _ _
  rw [hs]; iexact H
theorem part_row_any (c : Dev nD) (s : Fin 4) (q : PosShare TreeShare) (X : Vec F S1x1x128 .i32) :
    (owns (c : Thread nD τ) (cPart s) q X : sProp 𝕄) ⊢ iprop(∃ Y, owns (c : Thread nD τ) (cRow s) q Y) := by
  have h : X = asPart (fun i => X ((Shape.reshapeEquiv squeezes_S1x1x128_S1x128.numel_eq) i)) := by
    funext j; exact congrArg X (Equiv.apply_symm_apply _ j).symm
  rw [h]
  iintro H
  iexists _
  iapply (part_row c s q) $$ H

/-! ## Invariants -/

variable (I : Ins F)

/-- The barrier cells and the DMA cells of the exchange. -/
def barCells : Finset (GSem nD τ sig) := Finset.univ.image barCell
def dmaCells : Finset (GSem nD τ sig) := Finset.univ.image fun p : Dev nD × Fin 4 × Fin 4 => dcell p.1 p.2.1 p.2.2
theorem mem_bar (c : Dev nD) : barCell c ∈ barCells ∪ dmaCells := Finset.mem_union_left _ (Finset.mem_image_of_mem _ (Finset.mem_univ c))
theorem mem_dma (c : Dev nD) (k i : Fin 4) : dcell c k i ∈ barCells ∪ dmaCells :=
  Finset.mem_union_right _ (Finset.mem_image.mpr ⟨(c, k, i), Finset.mem_univ _, rfl⟩)

/-- Every cell's invariant, at the names the launch gave them, and that every barrier's round 0 is open. -/
def invs (κ : GSem nD τ sig → ℕ) : sProp 𝕄 :=
  iprop((bigSep (barCells ∪ dmaCells) fun g => cellInv ER (Rd I) (κ g) g) ∗ bigSep barCells fun g => reached ER g 0)
instance invs_persistent (κ : GSem nD τ sig → ℕ) : BI.Persistent (invs I κ) := by unfold invs; infer_instance

theorem invs_bar (κ : GSem nD τ sig → ℕ) (c : Dev nD) : invs I κ ⊢ cellInv ER (Rd I) (κ (barCell c)) (barCell c) :=
  (BI.sep_and.trans BI.and_elimL).trans (bigSep_elim (mem_bar c) (Φ := fun g => cellInv ER (Rd I) (κ g) g))
theorem invs_dma (κ : GSem nD τ sig → ℕ) (c : Dev nD) (k i : Fin 4) :
    invs I κ ⊢ cellInv ER (Rd I) (κ (dcell c k i)) (dcell c k i) :=
  (BI.sep_and.trans BI.and_elimL).trans (bigSep_elim (mem_dma c k i) (Φ := fun g => cellInv ER (Rd I) (κ g) g))
theorem invs_reached (κ : GSem nD τ sig → ℕ) (c : Dev nD) : invs I κ ⊢ reached ER (barCell c) 0 :=
  (BI.sep_and.trans BI.and_elimR).trans (bigSep_elim (Finset.mem_image_of_mem barCell (Finset.mem_univ c)) (Φ := fun g => reached ER g 0))

/-! ## Signals, copies, waits -/

section Talk

variable {α : Type} (κ : GSem nD τ sig → ℕ) (c : Dev nD) (k : Fin 3)

/-- What `c` pays to the barrier of its `k`-th peer, said of `c`'s own buffers and cells. -/
theorem barPay_own (s : Fin 4) : (barPay (mate c s) (place c) : sProp 𝕄)
    = iprop((∃ Y, owns (c : Thread nD τ) (cRow s) fullShare Y) ∗ (∃ Y, owns (c : Thread nD τ) (rBlk s) fullShare Y)
      ∗ reached ER (dcell c 1 s) 0 ∗ reached ER (dcell c 3 s) 0) := by
  unfold barPay; rw [mate_mate, mate_place, place_mate]

theorem signal_step {Q : α → sProp 𝕄} {d : Dev nD} (hd : d = peer c k) {l : List (GSem nD τ sig × ℕ)} {W : Waits sig Unit}
    {kk : PUnit → Prog (TpuEff nD τ sig (Elt F) Λ₀ .tc) α} :
    iprop(invs I κ ∗ owes (c : Thread nD τ) (owedL ((barCell (peer c k), 1) :: l)) W ∗ dutyTok ER (barCell (peer c k)) 0 (place c)
        ∗ (∃ Y, owns (c : Thread nD τ) (cRow (other c k)) fullShare Y) ∗ (∃ Y, owns (c : Thread nD τ) (rBlk (other c k)) fullShare Y)
        ∗ reached ER (dcell c 1 (other c k)) 0 ∗ reached ER (dcell c 3 (other c k)) 0)
      ⊢ iprop((owes (c : Thread nD τ) (owedL l) W -∗ runs c (kk ⟨⟩) Q)
        -∗ runs c (.op (.semSignal (Dev.tc d) barS 1) kk) Q) := by
  subst hd
  iintro ⟨#HI, HO, Ht, Hc, Hb, #H1, #H3⟩ Hk
  iapply (Rounds.wp_signal 𝒱₀ ER (Rd I) (c : Thread nD τ) none (dst := (peer c k : Thread nD τ)) (sem := barS) (r := 0) (d := place c)
      (κ := κ (barCell (peer c k)))
      (by rw [duties_bar, place_mate]; exact Finset.mem_erase.mpr ⟨(other_ne c k).symm, Finset.mem_univ _⟩) (amount_bar I (peer c k) _) ()
      (owedL l) rfl) $$ [HO Ht Hc Hb]
  · isplitr; · iapply (invs_bar I κ (peer c k)); iexact HI
    isplitl [HO]; · iexact HO
    isplitl [Ht]; · iexact Ht
    isplitl [Hc Hb]
    · rw [payload_bar, barPay_own]
      isplitl [Hc]; · iexact Hc
      isplitl [Hb]; · iexact Hb
      isplitr; · iexact H1
      iexact H3
    · iapply (invs_reached I κ (peer c k)); iexact HI
  iexact Hk

/-- The wait at the own barrier, all copies still owed: the three others' buffers come with it. -/
theorem barrier_step {Q : α → sProp 𝕄} {W : Waits sig Unit} {kk : PUnit → Prog (TpuEff nD τ sig (Elt F) Λ₀ .tc) α} :
    iprop(invs I κ ∗ levAts L lv ∗ cred (tallyAt (barCell c) () 3) ∗ owes (c : Thread nD τ) (owedL (copyDebts c)) W
        ∗ atPos ER (barCell c) 0 ∅ 0)
      ⊢ iprop(((∃ W', owes (c : Thread nD τ) (owedL (copyDebts c)) W') ∗ atPos ER (barCell c) 1 ∅ 0
            ∗ barPay c (other c 0) ∗ barPay c (other c 1) ∗ barPay c (other c 2) -∗ runs c (kk ⟨⟩) Q)
        -∗ runs c (.op (.semWait barS 3) kk) Q) := by
  iintro ⟨#HI, #Hlev, Hcr, HO, Hat⟩ Hk
  iapply (Rounds.wp_wait_rest_token 𝒱₀ ER (Rd I) (c : Thread nD τ) none (κ := κ (barCell c))
      (wpE_semWait_eq 𝒱₀ (c : Thread nD τ) none Set.univ) (Set.mem_univ _) () (O := owedL (copyDebts c)) (W := W) (R := 0) (m := 0) (T := ∅)
      ((Nat.zero_add 3).trans (expect_bar I c).symm)) $$ [Hcr HO Hat]
  · isplitr; · iapply (invs_bar I κ c); iexact HI
    isplitl [Hcr]; · iexact Hcr
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (rest_bar I c) $$ Hpay

/-- A copy to the `k`-th peer, paying the cell `kS` here and the cell `kR` there, `X` being what it moves. -/
theorem send_step {Q : α → sProp 𝕄} {sh : Shape} {e : EltTy} {src src' dst dst' : Memref sig .tc .vmem sh e} (hsrc : src' = src) (hdst : dst' = dst)
    {d : Dev nD} (hd : d = peer c k) {kS kR : Fin 4} {sS sR : DmaSem sig} (hS : sS = dsem kS (other c k)) (hR : sR = dsem kR (place c))
    {q : PosShare TreeShare} {X : sh.Idx → Elt F e} {N : ℕ}
    (hpS : dmaPay I c kS (other c k) = owns (c : Thread nD τ) src q X)
    (hpR : dmaPay I (peer c k) kR (place c) = owns ((peer c k : Dev nD) : Thread nD τ) dst fullShare X)
    (hN : dst.view.amount (.dma (dsem kR (place c))) = N) (hNS : Nk kS = N) (hNR : Nk kR = N)
    {w₁ : src'.view.WordExact} {w₂ : dst'.view.WordExact} {w₃}
    {l : List (GSem nD τ sig × ℕ)} {W : Waits sig Unit} {kk : PUnit → Prog (TpuEff nD τ sig (Elt F) Λ₀ .tc) α} :
    iprop(invs I κ ∗ owns (c : Thread nD τ) src q X ∗ (∃ Y, owns ((peer c k : Dev nD) : Thread nD τ) dst fullShare Y)
        ∗ owes (c : Thread nD τ) (owedL ((dcell (peer c k) kR (place c), N) :: l)) W
        ∗ dutyTok ER (dcell c kS (other c k)) 0 0 ∗ reached ER (dcell c kS (other c k)) 0
        ∗ dutyTok ER (dcell (peer c k) kR (place c)) 0 0 ∗ reached ER (dcell (peer c k) kR (place c)) 0)
      ⊢ iprop((cred (tallyAt (dcell c kS (other c k)) () N) ∗ owes (c : Thread nD τ) (owedL l) W -∗ runs c (kk ⟨⟩) Q)
        -∗ runs c (.op (.enqueueDma src' (.remote (Dev.tc d) dst' (.dma sS)) (.dma sR) w₁ w₂ w₃) kk) Q) := by
  subst hsrc hdst hd hS hR
  unfold owns
  iintro ⟨#HI, ⟨%fs, %hfs, Hs⟩, ⟨%Y, %fd, -, Hd⟩, HO, HtS, #HrS, HtR, #HrR⟩ Hk
  iapply (Rounds.wp_send_pointsTo 𝒱₀ ER (Rd I) (c : Thread nD τ) none (c' := (peer c k : Thread nD τ)) (src := src') (dst := dst')
      (sS := .dma (dsem kS (other c k))) (sem := .dma (dsem kR (place c))) (q := q) (fs := fs)
      (κ₁ := κ (dcell c kS (other c k))) (κ₂ := κ (dcell (peer c k) kR (place c)))
      (r₁ := 0) (r₂ := 0) (d₁ := 0) (d₂ := 0) (fd := fd)
      (by rw [duties_dma I c kS _ (other_ne c k)]; exact Finset.mem_singleton_self _)
      (by rw [duties_dma I (peer c k) kR _ (by rw [place_mate]; exact (other_ne c k).symm)]; exact Finset.mem_singleton_self _)
      () () N hN ((amount_dma I c kS _ 0).trans hNS) ((amount_dma I (peer c k) kR _ 0).trans hNR) (owedL l) rfl (W := W)
      (by rw [payload_dma, hpS]; subst hfs; exact owns_intro _ _ _ _)
      (by
        rw [payload_dma, hpR]
        have h := owns_intro (Val := Elt F) (Ix := Unit) (Name := ℕ) (U := UU) (Lvl := ℕ) ((peer c k : Dev nD) : Thread nD τ) dst' fullShare
          (dst'.view.write (Elt F) fd (src'.view.read (Elt F) fs) Finset.univ)
        rw [View.read_write_univ, hfs] at h
        rw [hfs]
        exact h)) $$ [Hs Hd HO HtS HtR]
  · isplitr; · iapply (invs_dma I κ c kS (other c k)); iexact HI
    isplitr; · iapply (invs_dma I κ (peer c k) kR (place c)); iexact HI
    isplitl [Hs]; · iexact Hs
    isplitl [Hd]; · iexact Hd
    isplitl [HO]; · iexact HO
    isplitl [HtS]; · iexact HtS
    isplitr; · iexact HrS
    isplitl [HtR]; · iexact HtR
    iexact HrR
  iexact Hk

/-- A wait, owing nothing, on an own cell of kind `kd` for another place: what was paid to it comes back. -/
theorem wait_step {Q : α → sProp 𝕄} {sh sh' : Shape} {e e' : EltTy} {kd i : Fin 4} (hi : i ≠ place c) {sem : DmaSem sig} (hsem : sem = dsem kd i)
    {src : Memref sig .tc .vmem sh e} {dst : Memref sig .tc .vmem sh' e'} {w₁ w₂} (hN : dst.view.dmaCredit = Nk kd)
    {W : Waits sig Unit} {kk : PUnit → Prog (TpuEff nD τ sig (Elt F) Λ₀ .tc) α} :
    iprop(invs I κ ∗ cred (tallyAt (dcell c kd i) () (Nk kd)) ∗ owes (c : Thread nD τ) 0 W ∗ atPos ER (dcell c kd i) 0 ∅ 0)
      ⊢ iprop(((∃ W', owes (c : Thread nD τ) 0 W') ∗ atPos ER (dcell c kd i) 1 ∅ 0 ∗ dmaPay I c kd i -∗ runs c (kk ⟨⟩) Q)
        -∗ runs c (.op (.waitDma2 sem src dst w₁ w₂) kk) Q) := by
  subst hsem
  iintro ⟨#HI, Hcr, HO, Hat⟩ Hk
  iapply (Rounds.wp_wait_rest_token 𝒱₀ ER (Rd I) (c : Thread nD τ) none (κ := κ (dcell c kd i))
      (wpE_waitDma2_eq 𝒱₀ (c : Thread nD τ) none Set.univ) (Set.mem_univ _) () (O := 0) (W := W) (R := 0) (m := 0) (T := ∅)
      ((Nat.zero_add _).trans (hN.trans (expect_dma I c kd i hi).symm))) $$ [Hcr HO Hat]
  · isplitr; · iapply (invs_dma I κ c kd i); iexact HI
    isplitl [Hcr]; · rw [hN]; iexact Hcr
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_dma I c kd i hi)) $$ Hpay

end Talk

/-! ## The kernel's devices, offsets and semaphores, in terms of places -/

theorem dev_eq {a : ℕ} (c : Dev nD) (k : Fin 3) (h : a < nD)
    (e : a = 16 * (c.val / 16) + 4 * ((c.val / 4) % 4) + ((c.val % 4) + (k.val + 1)) % 4) : (⟨a, h⟩ : Dev nD) = peer c k :=
  Fin.ext (by show a = 4 * (c.val / 4) + (c.val % 4 + k.val + 1) % 4; rw [e]; have : c.val < 32 := c.isLt; omega)

/-- The semaphore of an array of four at a given place. -/
theorem sem_eq (k i : Fin 4) {b : ℕ} {hb} (e : b = 4 * k.val + 4) {o : Fin 1 → ℕ} {h} (ho : o = ![i.val]) {hq} :
    (((SemArray.consecutive (n := 20) b S4 hb).slice (Rect.unit (s := S4) o S1.size h)).squeeze S_ hq).sem = dsem k i := by
  subst e ho
  refine Fin.ext ?_
  show 4 * k.val + 4 + (S4.rowMajor ((Rect.unit (s := S4) ![i.val] S1.size h).emb (Shape.reshapeEquiv hq.numel_eq fun a => a.elim0))).val
    = 4 * k.val + 4 + i.val
  rw [Shape.rowMajor_val_one]
  generalize (Shape.reshapeEquiv hq.numel_eq fun a => a.elim0) = j
  have hj : (j 0).val < 1 := (j 0).isLt
  show 4 * k.val + 4 + (i.val + 1 * (j 0).val) = 4 * k.val + 4 + i.val
  omega

end Cert.Proof
-- ==== Proof.Signals.lean ====
/-
The first half of the kernel's run: the three signals, the own counts, the barrier, and the copies of counts to the others.
-/
module

public import proofs.«01_k».proof.Proof.Steps

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

/-! ## Words -/

theorem word_place : Scalar.remsi (Scalar.divsi (Dev.word c) 1#32) 4#32 = pw (place c) := by revert c; decide +kernel
/-- The kernel's word for the `k`-th other place. -/
theorem word_other (k : Fin 3) {w : BitVec 32} (hw : w = BitVec.ofNat 32 (k.val + 1)) :
    Scalar.remsi (Scalar.addi (pw (place c)) w) 4#32 = pw (other c k) := by subst hw; revert c k; decide +kernel

/-! ## The three signals -/

/-- What a signal to the `k`-th peer takes: its duty token, and the own buffers and cells it announces. -/
def sigRes (k : Fin 3) : sProp 𝕄 :=
  iprop(dutyTok ER (barCell (peer c k)) 0 (place c)
    ∗ (∃ Y, owns (c : Thread nD τ) (cRow (other c k)) fullShare Y) ∗ (∃ Y, owns (c : Thread nD τ) (rBlk (other c k)) fullShare Y)
    ∗ reached ER (dcell c 1 (other c k)) 0 ∗ reached ER (dcell c 3 (other c k)) 0)

theorem part1_run {K : _ → sProp 𝕄} {W : Waits sig Unit} :
    iprop(invs I κ ∗ owes (c : Thread nD τ) (O₀ c) W ∗ sigRes c 0 ∗ sigRes c 1)
      ⊢ iprop((∀ v2 v5 v27 v29 v30, owes (c : Thread nD τ) (owedL ((barCell (peer c 2), 1) :: copyDebts c)) W
            -∗ K ⟨c, v2, v5, pw (place c), SemArray.scalar (sig.barrier 0 rfl), v27, v29, v30⟩)
        -∗ runs c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) K) := by
  rw [k0_part1_eq_skeleton]; unfold k0_part1_skel
  simp only [semSignalWord, Prog.lift, Prog.bind_op, Prog.bind_ret, Prog.pure_eq_ret]
  unfold sigRes
  iintro ⟨#HI, HO, H0, H1⟩ HK
  rw [runs, wp_deviceId]
  simp only [Prog.lift, Prog.bind_op, Prog.bind_ret, Prog.pure_eq_ret]
  iapply (signal_step I κ c 0 (dev_eq c 0 _ (k0_dev1_eq c)) (l := (barCell (peer c 1), 1) :: (barCell (peer c 2), 1) :: copyDebts c)) $$ [HO H0]
  · isplitr; · iexact HI
    isplitl [HO]; · iexact HO
    iexact H0
  iintro HO
  iapply (signal_step I κ c 1 (dev_eq c 1 _ (k0_dev2_eq c)) (l := (barCell (peer c 2), 1) :: copyDebts c)) $$ [HO H1]
  · isplitr; · iexact HI
    isplitl [HO]; · iexact HO
    iexact H1
  iintro HO
  rw [runs, wp_ret]; imodintro
  rw [word_place]
  iapply HK
  iexact HO

/-! ## The counts -/

/-- The kernel keeps its own row of counts only in the row of its own place, which it finds by four comparisons. -/
theorem own_row {α : Type} {Q : α → sProp 𝕄} (s N : Fin 4) {b : BitVec 32} (hb : b = pw N) {o : Fin 3 → ℕ} (ho : o = ![N.val, 0, 0]) {hoi}
    {Z w : Vec F S1x1x128 .i32} {hl hx hm} {kk : Prog (TpuEff nD τ sig (Elt F) Λ₀ .tc) α} :
    (owns (c : Thread nD τ) (cPart s) fullShare Z : sProp 𝕄)
      ⊢ iprop((owns (c : Thread nD τ) (cPart s) fullShare (if s = N then w else Z) -∗ runs c kk Q)
        -∗ runs c (if _h : Scalar.cmpi .ne (Scalar.extui (Scalar.cmpi .eq (pw s) b)) 0#32 = 1#1 then
            Prog.op (.load (Memref.whole cc0_scratch3) (Rect.unit (s := S4x1x128) o S1x1x128.size hoi).toLoadRect hl)
              (fun _ : Vec F S1x1x128 .i32 => Prog.op (.store (Memref.whole cc0_scratch3) (Rect.unit (s := S4x1x128) o S1x1x128.size hoi) w Finset.univ hx hm)
                fun _ => kk)
          else kk) Q) := by
  subst hb
  by_cases h : s = N
  · subst h
    have hc : Scalar.cmpi .ne (Scalar.extui (Scalar.cmpi .eq (pw s) (pw s))) 0#32 = 1#1 := by clear ho; revert s; decide
    rw [dif_pos hc, if_pos rfl]
    iintro H HK
    iapply (load_part c _ ho) $$ H
    iintro H
    iapply (store_part c _ ho) $$ H
    iexact HK
  · have hc : ¬ Scalar.cmpi .ne (Scalar.extui (Scalar.cmpi .eq (pw s) (pw N))) 0#32 = 1#1 := by clear ho; revert s N; decide
    rw [dif_neg hc, if_neg h]
    iintro H HK
    iapply HK $$ H

theorem part2_run {K : _ → sProp 𝕄} {W : Waits sig Unit} {v27 v29 v30 : BitVec 32} :
    iprop(invs I κ ∗ owes (c : Thread nD τ) (owedL ((barCell (peer c 2), 1) :: copyDebts c)) W ∗ sigRes c 2
        ∗ owns (c : Thread nD τ) (Memref.whole cc0_stg0_0) fullShare (I.x c) ∗ owns (c : Thread nD τ) (Memref.whole cc0_stg1_0) fullShare (I.row c)
        ∗ owns (c : Thread nD τ) (Memref.whole cc0_stg2_0) fullShare (I.col c)
        ∗ (∃ Y, owns (c : Thread nD τ) cOwn fullShare Y) ∗ (∃ Y, owns (c : Thread nD τ) (cPart (place c)) fullShare Y))
      ⊢ iprop((owes (c : Thread nD τ) (owedL (copyDebts c)) W
            ∗ owns (c : Thread nD τ) (Memref.whole cc0_stg0_0) fullShare (I.x c) ∗ owns (c : Thread nD τ) (Memref.whole cc0_stg1_0) fullShare (I.row c)
            ∗ owns (c : Thread nD τ) (Memref.whole cc0_stg2_0) fullShare (I.col c)
            ∗ owns (c : Thread nD τ) cOwn fullShare (cnt I c) ∗ owns (c : Thread nD τ) (cPart (place c)) fullShare (cnt3 I c)
            -∗ K ⟨k0_pay7 (I.row c), k0_pay8 (I.x c), k0_pay9⟩)
        -∗ runs c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (pw (place c)) (SemArray.scalar (sig.barrier 0 rfl)) v27 v29 v30) K) := by
  rw [k0_part2_eq_skeleton]; unfold k0_part2_skel
  simp only [semSignalWord, Prog.lift, Prog.bind_op, Prog.bind_ret, Prog.pure_eq_ret]
  unfold sigRes
  iintro ⟨#HI, HO, H0, Hx, Hrow, Hcol, ⟨%Y, Hc⟩, ⟨%Z, Hr⟩⟩ HK
  iapply (signal_step I κ c 2 (dev_eq c 2 _ (k0_dev3_eq c)) (l := copyDebts c)) $$ [HO H0]
  · isplitr; · iexact HI
    isplitl [HO]; · iexact HO
    iexact H0
  iintro HO
  iapply (load_full (i := 2) (hκ := rfl) c (funext (by decide))) $$ Hcol
  iintro Hcol
  iapply (load_full (i := 6) (hκ := rfl) c (funext (by decide))) $$ Hc
  iintro Hc
  iapply (store_full (i := 6) (hκ := rfl) c (funext (by decide))) $$ Hc
  iintro Hc
  iapply (own_row c (place c) 0 rfl rfl) $$ Hr
  iintro Hr
  iapply (own_row c (place c) 1 rfl rfl) $$ Hr
  iintro Hr
  iapply (own_row c (place c) 2 rfl rfl) $$ Hr
  iintro Hr
  iapply (own_row c (place c) 3 rfl rfl) $$ Hr
  iintro Hr
  iapply (load_full (i := 1) (hκ := rfl) c (funext (by decide))) $$ Hrow
  iintro Hrow
  iapply (load_full (i := 0) (hκ := rfl) c (funext (by decide))) $$ Hx
  iintro Hx
  rw [runs, wp_ret]; imodintro
  iapply HK
  isplitl [HO]; · iexact HO
  isplitl [Hx]; · iexact Hx
  isplitl [Hrow]; · iexact Hrow
  isplitl [Hcol]; · iexact Hcol
  isplitl [Hc]; · iexact Hc
  have h : ∀ (s : Fin 4) (w z : Vec F S1x1x128 .i32), (if s = 3 then w else if s = 2 then w else if s = 1 then w else if s = 0 then w else z) = w := by
    intro s w z; fin_cases s <;> rfl
  rw [show cnt3 I c = _ from (h (place c) (k0_pay3 (I.col c)) Z).symm]
  iexact Hr

/-! ## The barrier -/

theorem part3_run {K : _ → sProp 𝕄} {W : Waits sig Unit} {v2 : BitVec 32} :
    iprop(invs I κ ∗ levAts L lv ∗ cred (tallyAt (barCell c) () 3) ∗ owes (c : Thread nD τ) (owedL (copyDebts c)) W
        ∗ atPos ER (barCell c) 0 ∅ 0)
      ⊢ iprop((∀ v105 v107 v, (∃ W', owes (c : Thread nD τ) (owedL (copyDebts c)) W') ∗ atPos ER (barCell c) 1 ∅ 0
            ∗ barPay c (other c 0) ∗ barPay c (other c 1) ∗ barPay c (other c 2)
            -∗ K ⟨key I c, iota .tc S288x1024 32 [0] iota_S288x1024_d0_w32, v105, v107, v⟩)
        -∗ runs c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (pw (place c)) (SemArray.scalar (sig.barrier 0 rfl)) (k0_pay7 (I.row c)) k0_pay9) K) := by
  rw [k0_part3_eq_skeleton]; unfold k0_part3_skel key
  simp only [semWaitWord, Prog.lift, Prog.bind_op, Prog.bind_ret, Prog.pure_eq_ret]
  iintro H HK
  iapply (barrier_step I κ c) $$ H
  iintro H
  rw [runs, wp_ret]; imodintro
  iapply HK
  iexact H

end Cert.Proof
-- ==== Proof.Sends.lean ====
/-
The middle of the kernel's run: a row of counts and a block of rows go to each of the three other devices, and the block for the
device itself is packed in place.
-/
module

public import proofs.«01_k».proof.Proof.Signals

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

/-! ## Views and offsets -/

theorem row_view (s : Fin 4) {o : Fin 3 → ℕ} (ho : o = ![s.val, 0, 0]) {h hr} :
    ((Memref.whole cc0_scratch3 : Memref sig .tc .vmem S4x1x128 .i32).slice (Rect.unit (s := S4x1x128) o S1x1x128.size h) hr).squeeze
      S1x128 squeezes_S1x1x128_S1x128 = cRow s := by subst ho; rfl
theorem sBlk_view (s : Fin 4) {o : Fin 2 → ℕ} (ho : o = ![288 * s.val, 0]) {h hr} :
    (Memref.whole cc0_scratch0 : Memref sig .tc .vmem S1152x512 .bf16).slice (Rect.unit (s := S1152x512) o S288x512.size h) hr = sBlk s := by
  subst ho; rfl
theorem rBlk_view (s : Fin 4) {o : Fin 2 → ℕ} (ho : o = ![288 * s.val, 0]) {h hr} :
    (Memref.whole cc0_scratch1 : Memref sig .tc .vmem S1152x512 .bf16).slice (Rect.unit (s := S1152x512) o S288x512.size h) hr = rBlk s := by
  subst ho; rfl
theorem off4_other (k : Fin 3) {w : BitVec 32} (hw : w = BitVec.ofNat 32 (k.val + 1)) : k0_off4 c w = ![288 * (other c k).val, 0] := by
  subst hw
  fin_cases k
  · exact k0_off4_eq c 1
  · exact k0_off4_eq c 2
  · exact k0_off4_eq c 3
theorem row_amount (s : Fin 4) : (cRow s).view.dmaCredit = Nc := rfl
theorem rBlk_amount (s : Fin 4) : (rBlk s).view.dmaCredit = Nb := rfl

/-! ## The copies of counts -/

/-- What the copy of counts to the `k`-th peer takes. -/
def cntRes (k : Fin 3) : sProp 𝕄 :=
  iprop(owns (c : Thread nD τ) cOwn (shr (other c k)) (cnt I c) ∗ (∃ Y, owns ((peer c k : Dev nD) : Thread nD τ) (cRow (place c)) fullShare Y)
    ∗ dutyTok ER (dcell c 0 (other c k)) 0 0 ∗ reached ER (dcell c 0 (other c k)) 0
    ∗ dutyTok ER (dcell (peer c k) 1 (place c)) 0 0 ∗ reached ER (dcell (peer c k) 1 (place c)) 0)

theorem cnt_send {α : Type} {Q : α → sProp 𝕄} (k : Fin 3) {dst' : Memref sig .tc .vmem S1x128 .i32} (hdst : dst' = cRow (place c))
    {d : Dev nD} (hd : d = peer c k) {sS sR : DmaSem sig} (hS : sS = dsem 0 (other c k)) (hR : sR = dsem 1 (place c)) {w₁ w₂ w₃}
    {l : List (GSem nD τ sig × ℕ)} {W : Waits sig Unit} {kk : PUnit → Prog (TpuEff nD τ sig (Elt F) Λ₀ .tc) α} :
    iprop(invs I κ ∗ owes (c : Thread nD τ) (owedL (cntDebt c k :: l)) W ∗ cntRes I c k)
      ⊢ iprop((cred (tallyAt (dcell c 0 (other c k)) () (Nk 0)) ∗ owes (c : Thread nD τ) (owedL l) W -∗ runs c (kk ⟨⟩) Q)
        -∗ runs c (.op (.enqueueDma cOwn (.remote (Dev.tc d) dst' (.dma sS)) (.dma sR) w₁ w₂ w₃) kk) Q) := by
  unfold cntRes
  iintro ⟨#HI, HO, Hs, Hd, HtS, HrS, HtR, HrR⟩ HK
  iapply (send_step I κ c k (src := cOwn) (dst := cRow (place c)) rfl hdst hd hS hR (q := shr (other c k)) (X := cnt I c) (N := Nc)
    rfl (by unfold dmaPay; simp only [mate_mate, mate_place]) rfl rfl rfl) $$ [HO Hs Hd HtS HrS HtR HrR]
  · isplitr; · iexact HI
    isplitl [Hs]; · iexact Hs
    isplitl [Hd]; · iexact Hd
    isplitl [HO]; · iexact HO
    isplitl [HtS]; · iexact HtS
    isplitl [HrS]; · iexact HrS
    isplitl [HtR]; · iexact HtR
    iexact HrR
  iexact HK

theorem part4_run {K : PUnit → sProp 𝕄} {W : Waits sig Unit} {v2 v5 v105 v107 v : BitVec 32} :
    iprop(invs I κ ∗ owes (c : Thread nD τ) (owedL (copyDebts c)) W ∗ cntRes I c 0 ∗ cntRes I c 1 ∗ cntRes I c 2)
      ⊢ iprop((cred (tallyAt (dcell c 0 (other c 0)) () (Nk 0)) ∗ cred (tallyAt (dcell c 0 (other c 1)) () (Nk 0))
            ∗ cred (tallyAt (dcell c 0 (other c 2)) () (Nk 0))
            ∗ owes (c : Thread nD τ) (owedL [blkDebt c 0, blkDebt c 1, blkDebt c 2]) W -∗ K ⟨⟩)
        -∗ runs c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 (pw (place c)) v105 v107 v) K) := by
  rw [k0_part4_eq_skeleton]; unfold k0_part4_skel copyDebts
  simp only [Prog.lift, Prog.bind_op, Prog.bind_ret, Prog.pure_eq_ret]
  iintro ⟨#HI, HO, H0, H1, H2⟩ HK
  iapply (cnt_send I κ c 0 (row_view _ (k0_off3_eq c)) (dev_eq c 0 _ (k0_dev4_eq c)) (sem_eq 0 _ rfl (k0_off1_eq c 0)) (sem_eq 1 _ rfl (k0_off2_eq c))) $$ [HO H0]
  · isplitr; · iexact HI
    isplitl [HO]; · iexact HO
    iexact H0
  iintro ⟨C0, HO⟩
  iapply (cnt_send I κ c 1 (row_view _ (k0_off3_eq c)) (dev_eq c 1 _ (k0_dev5_eq c)) (sem_eq 0 _ rfl (k0_off1_eq c 1)) (sem_eq 1 _ rfl (k0_off2_eq c))) $$ [HO H1]
  · isplitr; · iexact HI
    isplitl [HO]; · iexact HO
    iexact H1
  iintro ⟨C1, HO⟩
  iapply (cnt_send I κ c 2 (row_view _ (k0_off3_eq c)) (dev_eq c 2 _ (k0_dev6_eq c)) (sem_eq 0 _ rfl (k0_off1_eq c 2)) (sem_eq 1 _ rfl (k0_off2_eq c))) $$ [HO H2]
  · isplitr; · iexact HI
    isplitl [HO]; · iexact HO
    iexact H2
  iintro ⟨C2, HO⟩
  rw [runs, wp_ret]; imodintro
  iapply HK
  isplitl [C0]; · iexact C0
  isplitl [C1]; · iexact C1
  isplitl [C2]; · iexact C2
  iexact HO

/-! ## The copies of blocks -/

/-- The three packings of a block for another place are the packing for a place, at that place's word. -/
theorem pack_other0 : k0_pay11 (pw (place c)) (k0_pay8 (I.x c)) (key I c) (iota .tc S288x1024 32 [0] iota_S288x1024_d0_w32) = blk I c (other c 0) := by
  unfold blk; rw [← word_other c 0 rfl]; rfl
theorem pack_other1 : k0_pay13 (k0_pay8 (I.x c)) (k0_pay12 (pw (place c)) (key I c) (iota .tc S288x1024 32 [0] iota_S288x1024_d0_w32)) = blk I c (other c 1) := by
  unfold blk; rw [← word_other c 1 rfl]; rfl
theorem pack_other2 : k0_pay14 (pw (place c)) (k0_pay8 (I.x c)) (key I c) (iota .tc S288x1024 32 [0] iota_S288x1024_d0_w32) = blk I c (other c 2) := by
  unfold blk; rw [← word_other c 2 rfl]; rfl

/-- What the copy of a block to the `k`-th peer takes, besides the block. -/
def blkRes (k : Fin 3) : sProp 𝕄 :=
  iprop((∃ Y, owns ((peer c k : Dev nD) : Thread nD τ) (rBlk (place c)) fullShare Y)
    ∗ dutyTok ER (dcell c 2 (other c k)) 0 0 ∗ reached ER (dcell c 2 (other c k)) 0
    ∗ dutyTok ER (dcell (peer c k) 3 (place c)) 0 0 ∗ reached ER (dcell (peer c k) 3 (place c)) 0)

theorem blk_send {α : Type} {Q : α → sProp 𝕄} (k : Fin 3) {src' dst' : Memref sig .tc .vmem S288x512 .bf16} (hsrc : src' = sBlk (other c k))
    (hdst : dst' = rBlk (place c))
    {d : Dev nD} (hd : d = peer c k) {sS sR : DmaSem sig} (hS : sS = dsem 2 (other c k)) (hR : sR = dsem 3 (place c)) {w₁ w₂ w₃}
    {l : List (GSem nD τ sig × ℕ)} {W : Waits sig Unit} {kk : PUnit → Prog (TpuEff nD τ sig (Elt F) Λ₀ .tc) α} :
    iprop(invs I κ ∗ owes (c : Thread nD τ) (owedL (blkDebt c k :: l)) W ∗ owns (c : Thread nD τ) (sBlk (other c k)) fullShare (blk I c (other c k))
        ∗ blkRes c k)
      ⊢ iprop((cred (tallyAt (dcell c 2 (other c k)) () (Nk 2)) ∗ owes (c : Thread nD τ) (owedL l) W -∗ runs c (kk ⟨⟩) Q)
        -∗ runs c (.op (.enqueueDma src' (.remote (Dev.tc d) dst' (.dma sS)) (.dma sR) w₁ w₂ w₃) kk) Q) := by
  unfold blkRes
  iintro ⟨#HI, HO, Hs, Hd, HtS, HrS, HtR, HrR⟩ HK
  iapply (send_step I κ c k (src := sBlk (other c k)) (dst := rBlk (place c)) hsrc hdst hd hS hR (q := fullShare) (X := blk I c (other c k)) (N := Nb)
    rfl (by unfold dmaPay; simp only [mate_mate, mate_place, place_mate]) rfl rfl rfl) $$ [HO Hs Hd HtS HrS HtR HrR]
  · isplitr; · iexact HI
    isplitl [Hs]; · iexact Hs
    isplitl [Hd]; · iexact Hd
    isplitl [HO]; · iexact HO
    isplitl [HtS]; · iexact HtS
    isplitl [HrS]; · iexact HrS
    isplitl [HtR]; · iexact HtR
    iexact HrR
  iexact HK

theorem part5_run {K : _ → sProp 𝕄} {W : Waits sig Unit} {v2 v5 : BitVec 32} :
    iprop(invs I κ ∗ owes (c : Thread nD τ) (owedL [blkDebt c 0, blkDebt c 1, blkDebt c 2]) W
        ∗ (∃ Y, owns (c : Thread nD τ) (sBlk (other c 0)) fullShare Y) ∗ blkRes c 0)
      ⊢ iprop((∀ v178, cred (tallyAt (dcell c 2 (other c 0)) () (Nk 2)) ∗ owes (c : Thread nD τ) (owedL [blkDebt c 1, blkDebt c 2]) W
            -∗ K ⟨v178, k0_pay12 (pw (place c)) (key I c) (iota .tc S288x1024 32 [0] iota_S288x1024_d0_w32)⟩)
        -∗ runs c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 (pw (place c)) (k0_pay8 (I.x c)) (key I c) (iota .tc S288x1024 32 [0] iota_S288x1024_d0_w32)) K) := by
  rw [k0_part5_eq_skeleton]; unfold k0_part5_skel
  simp only [Prog.lift, Prog.bind_op, Prog.bind_ret, Prog.pure_eq_ret]
  rw [pack_other0]
  iintro ⟨#HI, HO, ⟨%Y, Hs⟩, H⟩ HK
  iapply (load_part c _ (off4_other c 0 rfl)) $$ Hs
  iintro Hs
  iapply (store_part c _ (off4_other c 0 rfl)) $$ Hs
  iintro Hs
  iapply (blk_send I κ c 0 (sBlk_view _ (k0_off6_eq c 0)) (rBlk_view _ (k0_off5_eq c)) (dev_eq c 0 _ (k0_dev7_eq c))
    (sem_eq 2 _ rfl (k0_off1_eq c 0)) (sem_eq 3 _ rfl (k0_off2_eq c))) $$ [HO Hs H]
  · isplitr; · iexact HI
    isplitl [HO]; · iexact HO
    isplitl [Hs]; · iexact Hs
    iexact H
  iintro H
  rw [runs, wp_ret]; imodintro
  iapply HK
  iexact H

theorem part6_run {K : _ → sProp 𝕄} {W : Waits sig Unit} {v2 v5 v178 : BitVec 32} :
    iprop(invs I κ ∗ owes (c : Thread nD τ) (owedL [blkDebt c 1, blkDebt c 2]) W
        ∗ (∃ Y, owns (c : Thread nD τ) (sBlk (other c 1)) fullShare Y) ∗ (∃ Y, owns (c : Thread nD τ) (sBlk (other c 2)) fullShare Y) ∗ blkRes c 1)
      ⊢ iprop((∀ v209, cred (tallyAt (dcell c 2 (other c 1)) () (Nk 2)) ∗ owes (c : Thread nD τ) (owedL [blkDebt c 2]) W
            ∗ owns (c : Thread nD τ) (sBlk (other c 2)) fullShare (blk I c (other c 2)) -∗ K v209)
        -∗ runs c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 (pw (place c)) (k0_pay8 (I.x c)) (key I c) (iota .tc S288x1024 32 [0] iota_S288x1024_d0_w32)
            v178 (k0_pay12 (pw (place c)) (key I c) (iota .tc S288x1024 32 [0] iota_S288x1024_d0_w32))) K) := by
  rw [k0_part6_eq_skeleton]; unfold k0_part6_skel
  simp only [Prog.lift, Prog.bind_op, Prog.bind_ret, Prog.pure_eq_ret]
  rw [pack_other1, pack_other2]
  iintro ⟨#HI, HO, ⟨%Y, Hs⟩, ⟨%Z, Hz⟩, H⟩ HK
  iapply (load_part c _ (off4_other c 1 rfl)) $$ Hs
  iintro Hs
  iapply (store_part c _ (off4_other c 1 rfl)) $$ Hs
  iintro Hs
  iapply (blk_send I κ c 1 (sBlk_view _ (k0_off6_eq c 1)) (rBlk_view _ (k0_off5_eq c)) (dev_eq c 1 _ (k0_dev8_eq c))
    (sem_eq 2 _ rfl (k0_off1_eq c 1)) (sem_eq 3 _ rfl (k0_off2_eq c))) $$ [HO Hs H]
  · isplitr; · iexact HI
    isplitl [HO]; · iexact HO
    isplitl [Hs]; · iexact Hs
    iexact H
  iintro ⟨C, HO⟩
  iapply (load_part c _ (off4_other c 2 rfl)) $$ Hz
  iintro Hz
  iapply (store_part c _ (off4_other c 2 rfl)) $$ Hz
  iintro Hz
  rw [runs, wp_ret]; imodintro
  iapply HK
  isplitl [C]; · iexact C
  isplitl [HO]; · iexact HO
  iexact Hz

theorem part7_run {K : PUnit → sProp 𝕄} {W : Waits sig Unit} {v2 v5 v209 : BitVec 32} :
    iprop(invs I κ ∗ owes (c : Thread nD τ) (owedL [blkDebt c 2]) W ∗ owns (c : Thread nD τ) (sBlk (other c 2)) fullShare (blk I c (other c 2))
        ∗ blkRes c 2 ∗ (∃ Y, owns (c : Thread nD τ) (rBlk (place c)) fullShare Y))
      ⊢ iprop((cred (tallyAt (dcell c 2 (other c 2)) () (Nk 2)) ∗ owes (c : Thread nD τ) 0 W
            ∗ owns (c : Thread nD τ) (rBlk (place c)) fullShare (blk I c (place c)) -∗ K ⟨⟩)
        -∗ runs c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 (pw (place c)) (k0_pay8 (I.x c)) (key I c) (iota .tc S288x1024 32 [0] iota_S288x1024_d0_w32) v209) K) := by
  rw [k0_part7_eq_skeleton]; unfold k0_part7_skel
  simp only [Prog.lift, Prog.bind_op, Prog.bind_ret, Prog.pure_eq_ret]
  iintro ⟨#HI, HO, Hs, H, ⟨%Z, Hz⟩⟩ HK
  iapply (blk_send I κ c 2 (sBlk_view _ (k0_off6_eq c 2)) (rBlk_view _ (k0_off5_eq c)) (dev_eq c 2 _ (k0_dev9_eq c))
    (sem_eq 2 _ rfl (k0_off1_eq c 2)) (sem_eq 3 _ rfl (k0_off2_eq c))) $$ [HO Hs H]
  · isplitr; · iexact HI
    isplitl [HO]; · iexact HO
    isplitl [Hs]; · iexact Hs
    iexact H
  iintro ⟨C, HO⟩
  iapply (load_part c _ (k0_off7_eq c)) $$ Hz
  iintro Hz
  iapply (store_part c _ (k0_off7_eq c)) $$ Hz
  iintro Hz
  rw [runs, wp_ret]; imodintro
  iapply HK
  isplitl [C]; · iexact C
  isplitl [HO]; · iexact HO
  iexact Hz

end Cert.Proof
-- ==== Proof.Receives.lean ====
/-
The last part of the kernel's run: the counts and the blocks of the others arrive, each block is unpacked into the result, and the
copies to the others are waited for.
-/
module

public import proofs.«01_k».proof.Proof.Sends

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

/-! ## What is computed from what arrives -/

/-- How many rows the device at place `s` sends here, as the kernel reads it off that device's counts. -/
def tot (s : Fin 4) : BitVec 32 := extractAt ![0, 0, 0] (k0_pay17 (pw (place c)) (cnt3 I (mate c s))) inpos_S1x1x1_p0_0_0
/-- For each row of the result, where in the receive buffer it lies. -/
def pos : IVec S1024x1 32 :=
  k0_pay24 (tot I c 1) (tot I c 2) (tot I c 3) (Scalar.addi 0#32 (tot I c 0)) (Scalar.addi (Scalar.addi 0#32 (tot I c 0)) (tot I c 1))
    (Scalar.addi (Scalar.addi (Scalar.addi 0#32 (tot I c 0)) (tot I c 1)) (tot I c 2)) (iota .tc S1024x1 32 [0] iota_S1024x1_d0_w32)
    k0_pay21 (k0_pay22 (tot I c 0)) k0_pay23
/-- The same, less the start of the own place's block: what the kernel compares with for its own block. -/
def posOwn : IVec S1024x1 32 :=
  k0_pay26 (pw (place c)) (tot I c 1) (tot I c 2) (tot I c 3) (Scalar.addi 0#32 (tot I c 0)) (Scalar.addi (Scalar.addi 0#32 (tot I c 0)) (tot I c 1))
    (Scalar.addi (Scalar.addi (Scalar.addi 0#32 (tot I c 0)) (tot I c 1)) (tot I c 2)) (iota .tc S1024x1 32 [0] iota_S1024x1_d0_w32)
    k0_pay21 (k0_pay22 (tot I c 0)) k0_pay23
/-- The numbers of a block's rows, along the second axis. -/
abbrev cols : IVec S1024x288 32 := iota .tc S1024x288 32 [1] iota_S1024x288_d1_w32
/-- Unpacking the block from place `s` on top of what the other blocks gave. -/
def unpack (acc : FVec F S1024x512 .f32) (s : Fin 4) : FVec F S1024x512 .f32 :=
  k0_pay28 (pos I c) cols acc (pw s) (blk I (mate c s) (place c))
/-- What the device returns. -/
def out : FVec F S1024x512 .f32 :=
  unpack I c (unpack I c (unpack I c (unpack I c k0_pay25 (place c)) (other c 0)) (other c 1)) (other c 2)

theorem word_own : Scalar.remsi (Scalar.addi (pw (place c)) 0#32) 4#32 = pw (place c) := by revert c; decide +kernel
theorem unpack_two : k0_pay27 (pw (place c)) (pos I c) cols k0_pay25 (posOwn I c) (blk I (mate c (place c)) (place c)) (blk I (mate c (other c 0)) (place c))
    = unpack I c (unpack I c k0_pay25 (place c)) (other c 0) := by
  have h : unpack I c k0_pay25 (place c)
      = k0_pay28 (pos I c) cols k0_pay25 (Scalar.remsi (Scalar.addi (pw (place c)) 0#32) 4#32) (blk I (mate c (place c)) (place c)) := by
    rw [word_own]; rfl
  rw [h]; unfold unpack; rw [← word_other c 0 rfl]; rfl

/-- The counts as a part of the buffer are the counts as a row. -/
theorem cnt_part : asPart (cnt I c) = cnt3 I c := by
  funext j
  unfold asPart cnt cnt3 k0_pay2 k0_pay3 shapeCast
  refine congrArg _ (S1x128.rowMajor.injective (Fin.ext ?_))
  rw [Shape.rowMajor_reshapeEquiv, Shape.rowMajor_reshapeEquiv, ← Shape.rowMajor_reshapeEquiv squeezes_S1x1x128_S1x128.numel_eq, Equiv.apply_symm_apply]

/-! ## Waits -/

/-- What a copy moves is known from the shape and the element type. -/
theorem row_credit (m : Memref sig .tc .vmem S1x128 .i32) : m.view.dmaCredit = Nc := rfl
theorem blk_credit (m : Memref sig .tc .vmem S288x512 .bf16) : m.view.dmaCredit = Nb := rfl
theorem off4_own : k0_off4 c 0#32 = ![288 * (place c).val, 0] :=
  (k0_off4_eq c 0).trans (congrArg (fun n => ![288 * n, 0]) (by show (c.val % 4 + 0) % 4 = c.val % 4; omega))

/-- The device owes nothing. -/
def free : sProp 𝕄 := iprop(∃ W, owes (c : Thread nD τ) 0 W)
/-- What a wait on the cell of kind `kd` for the `k`-th peer takes. -/
def cellRes (kd : Fin 4) (k : Fin 3) : sProp 𝕄 :=
  iprop(cred (tallyAt (dcell c kd (other c k)) () (Nk kd)) ∗ atPos ER (dcell c kd (other c k)) 0 ∅ 0)

theorem wait_other {α : Type} {Q : α → sProp 𝕄} (kd : Fin 4) (k : Fin 3) {sh sh' : Shape} {e e' : EltTy} {sem : DmaSem sig} (hsem : sem = dsem kd (other c k))
    {src : Memref sig .tc .vmem sh e} {dst : Memref sig .tc .vmem sh' e'} {w₁ w₂} (hN : dst.view.dmaCredit = Nk kd)
    {kk : PUnit → Prog (TpuEff nD τ sig (Elt F) Λ₀ .tc) α} :
    iprop(invs I κ ∗ free c ∗ cellRes c kd k)
      ⊢ iprop((free c ∗ atPos ER (dcell c kd (other c k)) 1 ∅ 0 ∗ dmaPay I c kd (other c k) -∗ runs c (kk ⟨⟩) Q)
        -∗ runs c (.op (.waitDma2 sem src dst w₁ w₂) kk) Q) := by
  unfold free cellRes
  iintro ⟨#HI, ⟨%W, HO⟩, Hc, Ha⟩ HK
  iapply (wait_step I κ c (other_ne c k) hsem hN) $$ [HO Hc Ha]
  · isplitr; · iexact HI
    isplitl [Hc]; · iexact Hc
    isplitl [HO]; · iexact HO
    iexact Ha
  iexact HK

/-! ## The counts arrive -/

/-- The four rows of counts. -/
def rows : sProp 𝕄 :=
  iprop(owns (c : Thread nD τ) (cPart 0) fullShare (cnt3 I (mate c 0)) ∗ owns (c : Thread nD τ) (cPart 1) fullShare (cnt3 I (mate c 1))
    ∗ owns (c : Thread nD τ) (cPart 2) fullShare (cnt3 I (mate c 2)) ∗ owns (c : Thread nD τ) (cPart 3) fullShare (cnt3 I (mate c 3)))
/-- A statement of the four places, in order. -/
theorem bigSep_four (Φ : Fin 4 → sProp 𝕄) : bigSep Finset.univ Φ = iprop(Φ 0 ∗ Φ 1 ∗ Φ 2 ∗ Φ 3) := by
  rw [bigSep_eq_bigSepL_of_eq [0, 1, 2, 3] (by decide) (by decide)]; rfl
theorem rows_of_places :
    iprop(owns (c : Thread nD τ) (cPart (place c)) fullShare (cnt3 I c) ∗ dmaPay I c 1 (other c 0) ∗ dmaPay I c 1 (other c 1) ∗ dmaPay I c 1 (other c 2))
      ⊢ rows I c := by
  unfold rows
  rw [← bigSep_four (F := F) fun s => owns (c : Thread nD τ) (cPart s) fullShare (cnt3 I (mate c s)), bigSep_places c, mate_place]
  have h : ∀ s, dmaPay I c 1 s ⊢ owns (c : Thread nD τ) (cPart s) fullShare (cnt3 I (mate c s)) := fun s => by
    rw [← cnt_part]; exact row_part c s fullShare _
  exact BI.sep_mono (BI.Entails.refl _) (BI.sep_mono (h _) (BI.sep_mono (h _) (h _)))

theorem part8_run {K : _ → sProp 𝕄} {v2 v5 : BitVec 32} :
    iprop(invs I κ ∗ free c ∗ cellRes c 1 0 ∗ cellRes c 1 1 ∗ cellRes c 1 2 ∗ owns (c : Thread nD τ) (cPart (place c)) fullShare (cnt3 I c))
      ⊢ iprop((free c ∗ (atPos ER (dcell c 1 (other c 0)) 1 ∅ 0 ∗ atPos ER (dcell c 1 (other c 1)) 1 ∅ 0 ∗ atPos ER (dcell c 1 (other c 2)) 1 ∅ 0)
            ∗ rows I c -∗ K ⟨k0_pay16 (pw (place c)), tot I c 0⟩)
        -∗ runs c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 (pw (place c))) K) := by
  rw [k0_part8_eq_skeleton]; unfold k0_part8_skel tot
  simp only [Prog.lift, Prog.bind_op, Prog.bind_ret, Prog.pure_eq_ret]
  iintro ⟨#HI, HO, C0, C1, C2, Hr⟩ HK
  iapply (wait_other I κ c 1 0 (sem_eq 1 _ rfl (k0_off1_eq c 0)) (row_credit _)) $$ [HO C0]
  · isplitr; · iexact HI
    isplitl [HO]; · iexact HO
    iexact C0
  iintro ⟨HO, A0, P0⟩
  iapply (wait_other I κ c 1 1 (sem_eq 1 _ rfl (k0_off1_eq c 1)) (row_credit _)) $$ [HO C1]
  · isplitr; · iexact HI
    isplitl [HO]; · iexact HO
    iexact C1
  iintro ⟨HO, A1, P1⟩
  iapply (wait_other I κ c 1 2 (sem_eq 1 _ rfl (k0_off1_eq c 2)) (row_credit _)) $$ [HO C2]
  · isplitr; · iexact HI
    isplitl [HO]; · iexact HO
    iexact C2
  iintro ⟨HO, A2, P2⟩
  ihave HR := (rows_of_places I c) $$ [Hr P0 P1 P2]
  · isplitl [Hr]; · iexact Hr
    isplitl [P0]; · iexact P0
    isplitl [P1]; · iexact P1
    iexact P2
  unfold rows
  icases HR with ⟨R0, R1, R2, R3⟩
  iapply (load_part c _ rfl) $$ R0
  iintro R0
  rw [runs, wp_ret]; imodintro
  iapply HK
  isplitl [HO]; · iexact HO
  isplitl [A0 A1 A2]
  · isplitl [A0]; · iexact A0
    isplitl [A1]; · iexact A1
    iexact A2
  isplitl [R0]; · iexact R0
  isplitl [R1]; · iexact R1
  isplitl [R2]; · iexact R2
  iexact R3

theorem part9_run {K : _ → sProp 𝕄} :
    rows I c
      ⊢ iprop((rows I c -∗ K ⟨tot I c 1, tot I c 2, tot I c 3, Scalar.addi 0#32 (tot I c 0), Scalar.addi (Scalar.addi 0#32 (tot I c 0)) (tot I c 1),
            Scalar.addi (Scalar.addi (Scalar.addi 0#32 (tot I c 0)) (tot I c 1)) (tot I c 2), iota .tc S1024x1 32 [0] iota_S1024x1_d0_w32,
            k0_pay21, k0_pay22 (tot I c 0), k0_pay23⟩)
        -∗ runs c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (k0_pay16 (pw (place c))) (tot I c 0)) K) := by
  rw [k0_part9_eq_skeleton]; unfold k0_part9_skel rows
  simp only [Prog.lift, Prog.bind_op, Prog.bind_ret, Prog.pure_eq_ret]
  iintro ⟨R0, R1, R2, R3⟩ HK
  iapply (load_part c _ rfl) $$ R1
  iintro R1
  iapply (load_part c _ rfl) $$ R2
  iintro R2
  iapply (load_part c _ rfl) $$ R3
  iintro R3
  rw [runs, wp_ret]; imodintro
  have h1 : extractAt ![0, 0, 0] (k0_pay18 (k0_pay16 (pw (place c))) (cnt3 I (mate c 1))) inpos_S1x1x1_p0_0_0 = tot I c 1 := rfl
  have h2 : extractAt ![0, 0, 0] (k0_pay19 (k0_pay16 (pw (place c))) (cnt3 I (mate c 2))) inpos_S1x1x1_p0_0_0 = tot I c 2 := rfl
  have h3 : extractAt ![0, 0, 0] (k0_pay20 (k0_pay16 (pw (place c))) (cnt3 I (mate c 3))) inpos_S1x1x1_p0_0_0 = tot I c 3 := rfl
  rw [h1, h2, h3]
  iapply HK
  isplitl [R0]; · iexact R0
  isplitl [R1]; · iexact R1
  isplitl [R2]; · iexact R2
  iexact R3

theorem part10_run {K : _ → sProp 𝕄} :
    (BIBase.emp : sProp 𝕄) ⊢ iprop((∀ v385, K ⟨pos I c, cols, k0_pay25, v385, posOwn I c⟩)
      -∗ runs c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (pw (place c)) (tot I c 1) (tot I c 2) (tot I c 3) (Scalar.addi 0#32 (tot I c 0))
          (Scalar.addi (Scalar.addi 0#32 (tot I c 0)) (tot I c 1)) (Scalar.addi (Scalar.addi (Scalar.addi 0#32 (tot I c 0)) (tot I c 1)) (tot I c 2))
          (iota .tc S1024x1 32 [0] iota_S1024x1_d0_w32) k0_pay21 (k0_pay22 (tot I c 0)) k0_pay23) K) := by
  rw [k0_part10_eq_skeleton]; unfold k0_part10_skel pos posOwn
  iintro - HK
  rw [runs, Prog.pure_eq_ret, wp_ret]; imodintro
  iapply HK

/-! ## The blocks arrive -/

theorem part11_run {K : _ → sProp 𝕄} {v2 v5 v385 : BitVec 32} :
    iprop(invs I κ ∗ free c ∗ cellRes c 3 0 ∗ owns (c : Thread nD τ) (rBlk (place c)) fullShare (blk I c (place c)))
      ⊢ iprop((∀ v, free c ∗ atPos ER (dcell c 3 (other c 0)) 1 ∅ 0 ∗ owns (c : Thread nD τ) (rBlk (place c)) fullShare (blk I c (place c))
            ∗ dmaPay I c 3 (other c 0) -∗ K ⟨unpack I c (unpack I c k0_pay25 (place c)) (other c 0), pw (other c 1), v⟩)
        -∗ runs c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 (pw (place c)) (pos I c) cols k0_pay25 v385 (posOwn I c)) K) := by
  rw [k0_part11_eq_skeleton]; unfold k0_part11_skel
  simp only [Prog.lift, Prog.bind_op, Prog.bind_ret, Prog.pure_eq_ret]
  iintro ⟨#HI, HO, C0, Hz⟩ HK
  iapply (load_part c _ (off4_own c)) $$ Hz
  iintro Hz
  iapply (wait_other I κ c 3 0 (sem_eq 3 _ rfl (k0_off1_eq c 0)) (blk_credit _)) $$ [HO C0]
  · isplitr; · iexact HI
    isplitl [HO]; · iexact HO
    iexact C0
  iintro ⟨HO, A0, P0⟩
  unfold dmaPay
  iapply (load_part c _ (off4_other c 0 rfl)) $$ P0
  iintro P0
  rw [runs, wp_ret]; imodintro
  have h := unpack_two I c
  rw [mate_place] at h
  rw [h, word_other c 1 (w := 2#32) rfl]
  iapply HK
  isplitl [HO]; · iexact HO
  isplitl [A0]; · iexact A0
  isplitl [Hz]; · iexact Hz
  iexact P0

theorem part12_run {K : _ → sProp 𝕄} {acc : FVec F S1024x512 .f32} {v2 v5 v : BitVec 32} :
    iprop(invs I κ ∗ free c ∗ cellRes c 3 1)
      ⊢ iprop((free c ∗ atPos ER (dcell c 3 (other c 1)) 1 ∅ 0 ∗ dmaPay I c 3 (other c 1)
            -∗ K ⟨unpack I c acc (other c 1), pw (other c 2)⟩)
        -∗ runs c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 (pw (place c)) (pos I c) cols acc (pw (other c 1)) v) K) := by
  rw [k0_part12_eq_skeleton]; unfold k0_part12_skel
  simp only [Prog.lift, Prog.bind_op, Prog.bind_ret, Prog.pure_eq_ret]
  iintro ⟨#HI, HO, C0⟩ HK
  iapply (wait_other I κ c 3 1 (sem_eq 3 _ rfl (k0_off1_eq c 1)) (blk_credit _)) $$ [HO C0]
  · isplitr; · iexact HI
    isplitl [HO]; · iexact HO
    iexact C0
  iintro ⟨HO, A0, P0⟩
  unfold dmaPay
  iapply (load_part c _ (off4_other c 1 rfl)) $$ P0
  iintro P0
  rw [runs, wp_ret]; imodintro
  rw [word_other c 2 (w := 3#32) rfl]
  unfold unpack
  iapply HK
  isplitl [HO]; · iexact HO
  isplitl [A0]; · iexact A0
  iexact P0

theorem part13_run {K : PUnit → sProp 𝕄} {acc : FVec F S1024x512 .f32} :
    iprop(invs I κ ∗ free c ∗ cellRes c 3 2 ∗ cellRes c 0 0 ∗ cellRes c 0 1 ∗ cellRes c 0 2 ∗ cellRes c 2 0
        ∗ (∃ X, owns (c : Thread nD τ) (Memref.whole cc0_stg3_0) fullShare X))
      ⊢ iprop((free c ∗ (atPos ER (dcell c 3 (other c 2)) 1 ∅ 0 ∗ dmaPay I c 3 (other c 2))
            ∗ (atPos ER (dcell c 0 (other c 0)) 1 ∅ 0 ∗ dmaPay I c 0 (other c 0)) ∗ (atPos ER (dcell c 0 (other c 1)) 1 ∅ 0 ∗ dmaPay I c 0 (other c 1))
            ∗ (atPos ER (dcell c 0 (other c 2)) 1 ∅ 0 ∗ dmaPay I c 0 (other c 2)) ∗ (atPos ER (dcell c 2 (other c 0)) 1 ∅ 0 ∗ dmaPay I c 2 (other c 0))
            ∗ owns (c : Thread nD τ) (Memref.whole cc0_stg3_0) fullShare (unpack I c acc (other c 2)) -∗ K ⟨⟩)
        -∗ runs c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (pos I c) cols acc (pw (other c 2))) K) := by
  rw [k0_part13_eq_skeleton]; unfold k0_part13_skel
  simp only [Prog.lift, Prog.bind_op, Prog.bind_ret, Prog.pure_eq_ret]
  iintro ⟨#HI, HO, C3, C0, C1, C2, CB, ⟨%X, Hout⟩⟩ HK
  iapply (wait_other I κ c 3 2 (sem_eq 3 _ rfl (k0_off1_eq c 2)) (blk_credit _)) $$ [HO C3]
  · isplitr; · iexact HI
    isplitl [HO]; · iexact HO
    iexact C3
  unfold dmaPay
  iintro ⟨HO, A3, P3⟩
  iapply (load_part c _ (off4_other c 2 rfl)) $$ P3
  iintro P3
  iapply (load_full (i := 3) (hκ := rfl) c (funext (by decide))) $$ Hout
  iintro Hout
  iapply (store_full (i := 3) (hκ := rfl) c (funext (by decide))) $$ Hout
  iintro Hout
  iapply (wait_other I κ c 0 0 (sem_eq 0 _ rfl (k0_off1_eq c 0)) (row_credit _)) $$ [HO C0]
  · isplitr; · iexact HI
    isplitl [HO]; · iexact HO
    iexact C0
  iintro ⟨HO, P0⟩
  iapply (wait_other I κ c 0 1 (sem_eq 0 _ rfl (k0_off1_eq c 1)) (row_credit _)) $$ [HO C1]
  · isplitr; · iexact HI
    isplitl [HO]; · iexact HO
    iexact C1
  iintro ⟨HO, P1⟩
  iapply (wait_other I κ c 0 2 (sem_eq 0 _ rfl (k0_off1_eq c 2)) (row_credit _)) $$ [HO C2]
  · isplitr; · iexact HI
    isplitl [HO]; · iexact HO
    iexact C2
  iintro ⟨HO, P2⟩
  iapply (wait_other I κ c 2 0 (sem_eq 2 _ rfl (k0_off1_eq c 0)) (blk_credit _)) $$ [HO CB]
  · isplitr; · iexact HI
    isplitl [HO]; · iexact HO
    iexact CB
  iintro ⟨HO, PB⟩
  rw [runs, wp_ret]; imodintro
  iapply HK
  isplitl [HO]; · iexact HO
  isplitl [A3 P3]
  · isplitl [A3]; · iexact A3
    iexact P3
  isplitl [P0]; · iexact P0
  isplitl [P1]; · iexact P1
  isplitl [P2]; · iexact P2
  isplitl [PB]; · iexact PB
  iexact Hout

end Cert.Proof
-- ==== Proof.Body.lean ====
/-
The kernel's whole run on one device: from what it holds when the group starts to what it holds when all its copies are done.
-/
module

public import proofs.«01_k».proof.Proof.Receives

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

/-- The own counts, whole, are four shares of them: the own place's and one for each of the others. -/
theorem own_shares (X : Vec F S1x128 .i32) :
    (owns (c : Thread nD τ) cOwn fullShare X : sProp 𝕄)
      ⊣⊢ iprop(owns (c : Thread nD τ) cOwn (shr (place c)) X ∗ owns (c : Thread nD τ) cOwn (shr (other c 0)) X
        ∗ owns (c : Thread nD τ) cOwn (shr (other c 1)) X ∗ owns (c : Thread nD τ) cOwn (shr (other c 2)) X) := by
  rw [← bigSep_places c fun s => owns (c : Thread nD τ) cOwn (shr s) X, bigSep_four]
  constructor
  · iintro H
    ihave H := (owns_halves (c : Thread nD τ) cOwn fullShare X).1 $$ H
    icases H with ⟨Hl, Hr⟩
    ihave Hl := (owns_halves (c : Thread nD τ) cOwn fullShare.left X).1 $$ Hl
    ihave Hr := (owns_halves (c : Thread nD τ) cOwn fullShare.right X).1 $$ Hr
    icases Hl with ⟨H0, H1⟩
    icases Hr with ⟨H2, H3⟩
    isplitl [H0]; · iexact H0
    isplitl [H1]; · iexact H1
    isplitl [H2]; · iexact H2
    iexact H3
  · iintro ⟨H0, H1, H2, H3⟩
    iapply (owns_halves (c : Thread nD τ) cOwn fullShare X).2
    isplitl [H0 H1]
    · iapply (owns_halves (c : Thread nD τ) cOwn fullShare.left X).2
      isplitl [H0]; · iexact H0
      iexact H1
    · iapply (owns_halves (c : Thread nD τ) cOwn fullShare.right X).2
      isplitl [H2]; · iexact H2
      iexact H3

/-- What a device holds towards its `k`-th peer when it starts. -/
def start (k : Fin 3) : sProp 𝕄 :=
  iprop(sigRes c k ∗ (∃ Y, owns (c : Thread nD τ) (sBlk (other c k)) fullShare Y)
    ∗ (dutyTok ER (dcell c 0 (other c k)) 0 0 ∗ reached ER (dcell c 0 (other c k)) 0)
    ∗ (dutyTok ER (dcell c 2 (other c k)) 0 0 ∗ reached ER (dcell c 2 (other c k)) 0)
    ∗ dutyTok ER (dcell (peer c k) 1 (place c)) 0 0 ∗ dutyTok ER (dcell (peer c k) 3 (place c)) 0 0
    ∗ cellRes c 1 k ∗ cellRes c 3 k ∗ atPos ER (dcell c 0 (other c k)) 0 ∅ 0 ∗ atPos ER (dcell c 2 (other c k)) 0 ∅ 0)
/-- What it holds towards its `k`-th peer when all is done. -/
def done (k : Fin 3) : sProp 𝕄 :=
  iprop((∃ Y, owns (c : Thread nD τ) (sBlk (other c k)) fullShare Y) ∗ (∃ Y, owns (c : Thread nD τ) (rBlk (other c k)) fullShare Y)
    ∗ atPos ER (dcell c 0 (other c k)) 1 ∅ 0 ∗ atPos ER (dcell c 1 (other c k)) 1 ∅ 0
    ∗ atPos ER (dcell c 2 (other c k)) 1 ∅ 0 ∗ atPos ER (dcell c 3 (other c k)) 1 ∅ 0)

/-- The three input windows. -/
def inputs : sProp 𝕄 :=
  iprop(owns (c : Thread nD τ) (Memref.whole cc0_stg0_0) fullShare (I.x c) ∗ owns (c : Thread nD τ) (Memref.whole cc0_stg1_0) fullShare (I.row c)
    ∗ owns (c : Thread nD τ) (Memref.whole cc0_stg2_0) fullShare (I.col c))

theorem body_run {W : Waits sig Unit} {K : PUnit → sProp 𝕄} :
    iprop(invs I κ ∗ levAts L lv ∗ owes (c : Thread nD τ) (O₀ c) W ∗ (cred (tallyAt (barCell c) () 3) ∗ atPos ER (barCell c) 0 ∅ 0)
        ∗ inputs I c ∗ (∃ X, owns (c : Thread nD τ) (Memref.whole cc0_stg3_0) fullShare X)
        ∗ (∃ Y, owns (c : Thread nD τ) cOwn fullShare Y) ∗ (∃ Y, owns (c : Thread nD τ) (cPart (place c)) fullShare Y)
        ∗ (∃ Y, owns (c : Thread nD τ) (rBlk (place c)) fullShare Y) ∗ start c 0 ∗ start c 1 ∗ start c 2)
      ⊢ iprop((free c ∗ atPos ER (barCell c) 1 ∅ 0 ∗ inputs I c ∗ owns (c : Thread nD τ) (Memref.whole cc0_stg3_0) fullShare (out I c)
            ∗ (∃ Y, owns (c : Thread nD τ) cOwn fullShare Y) ∗ rows I c ∗ (∃ Y, owns (c : Thread nD τ) (rBlk (place c)) fullShare Y)
            ∗ done c 0 ∗ done c 1 ∗ done c 2 -∗ K ⟨⟩)
        -∗ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) K) := by
  rw [cc0_body_eq_skeleton]; unfold cc0_body_skel start inputs
  iintro ⟨#HI, #Hlev, HO, ⟨Cbar, Abar⟩, ⟨Hx, Hrow, Hcol⟩, Hout, Hc, Hr, Hz,
    ⟨S0, B0, ⟨TA0, RA0⟩, ⟨TB0, RB0⟩, TC0, TD0, C10, C30, A00, A20⟩,
    ⟨S1, B1, ⟨TA1, RA1⟩, ⟨TB1, RB1⟩, TC1, TD1, C11, C31, A01, A21⟩,
    ⟨S2, B2, ⟨TA2, RA2⟩, ⟨TB2, RB2⟩, TC2, TD2, C12, C32, A02, A22⟩⟩ HK
  rw [runs, wp_bind]
  iapply (part1_run I κ c) $$ [HO S0 S1]
  · isplitr; · iexact HI
    isplitl [HO]; · iexact HO
    isplitl [S0]; · iexact S0
    iexact S1
  iintro %v2 %v5 %v27 %v29 %v30 HO
  try dsimp only
  rw [wp_bind]
  iapply (part2_run I κ c) $$ [HO S2 Hx Hrow Hcol Hc Hr]
  · isplitr; · iexact HI
    isplitl [HO]; · iexact HO
    isplitl [S2]; · iexact S2
    isplitl [Hx]; · iexact Hx
    isplitl [Hrow]; · iexact Hrow
    isplitl [Hcol]; · iexact Hcol
    isplitl [Hc]; · iexact Hc
    iexact Hr
  iintro ⟨HO, Hx, Hrow, Hcol, Hc, Hr⟩
  try dsimp only
  rw [wp_bind]
  iapply (part3_run I κ c) $$ [HO Cbar Abar]
  · isplitr; · iexact HI
    isplitr; · iexact Hlev
    isplitl [Cbar]; · iexact Cbar
    isplitl [HO]; · iexact HO
    iexact Abar
  unfold barPay
  iintro %v105 %v107 %v ⟨⟨%W', HO⟩, Abar, ⟨Q0, U0, V0, V0'⟩, ⟨Q1, U1, V1, V1'⟩, ⟨Q2, U2, V2, V2'⟩⟩
  try dsimp only
  rw [wp_bind]
  ihave Hc4 := (own_shares c (cnt I c)).1 $$ Hc
  icases Hc4 with ⟨Hp, H0, H1, H2⟩
  iapply (part4_run I κ c) $$ [HO H0 H1 H2 Q0 Q1 Q2 V0 V1 V2 TA0 TA1 TA2 RA0 RA1 RA2 TC0 TC1 TC2]
  · unfold cntRes
    isplitr; · iexact HI
    isplitl [HO]; · iexact HO
    isplitl [H0 Q0 V0 TA0 RA0 TC0]
    · isplitl [H0]; · iexact H0
      isplitl [Q0]; · iexact Q0
      isplitl [TA0]; · iexact TA0
      isplitl [RA0]; · iexact RA0
      isplitl [TC0]; · iexact TC0
      iexact V0
    isplitl [H1 Q1 V1 TA1 RA1 TC1]
    · isplitl [H1]; · iexact H1
      isplitl [Q1]; · iexact Q1
      isplitl [TA1]; · iexact TA1
      isplitl [RA1]; · iexact RA1
      isplitl [TC1]; · iexact TC1
      iexact V1
    · isplitl [H2]; · iexact H2
      isplitl [Q2]; · iexact Q2
      isplitl [TA2]; · iexact TA2
      isplitl [RA2]; · iexact RA2
      isplitl [TC2]; · iexact TC2
      iexact V2
  iintro ⟨D0, D1, D2, HO⟩
  rw [wp_bind]
  iapply (part5_run I κ c) $$ [HO B0 U0 V0' TB0 RB0 TD0]
  · unfold blkRes
    isplitr; · iexact HI
    isplitl [HO]; · iexact HO
    isplitl [B0]; · iexact B0
    isplitl [U0]; · iexact U0
    isplitl [TB0]; · iexact TB0
    isplitl [RB0]; · iexact RB0
    isplitl [TD0]; · iexact TD0
    iexact V0'
  iintro %v178 ⟨E0, HO⟩
  try dsimp only
  rw [wp_bind]
  iapply (part6_run I κ c) $$ [HO B1 B2 U1 V1' TB1 RB1 TD1]
  · unfold blkRes
    isplitr; · iexact HI
    isplitl [HO]; · iexact HO
    isplitl [B1]; · iexact B1
    isplitl [B2]; · iexact B2
    isplitl [U1]; · iexact U1
    isplitl [TB1]; · iexact TB1
    isplitl [RB1]; · iexact RB1
    isplitl [TD1]; · iexact TD1
    iexact V1'
  iintro %v209 ⟨E1, HO, B2⟩
  try dsimp only
  rw [wp_bind]
  iapply (part7_run I κ c) $$ [HO B2 U2 V2' TB2 RB2 TD2 Hz]
  · unfold blkRes
    isplitr; · iexact HI
    isplitl [HO]; · iexact HO
    isplitl [B2]; · iexact B2
    isplitl [U2 TB2 RB2 TD2 V2']
    · isplitl [U2]; · iexact U2
      isplitl [TB2]; · iexact TB2
      isplitl [RB2]; · iexact RB2
      isplitl [TD2]; · iexact TD2
      iexact V2'
    iexact Hz
  iintro ⟨E2, HO, Hz⟩
  rw [wp_bind]
  ihave HF : free (F := F) c $$ [HO]
  · unfold free; iexists _; iexact HO
  iapply (part8_run I κ c) $$ [HF C10 C11 C12 Hr]
  · isplitr; · iexact HI
    isplitl [HF]; · iexact HF
    isplitl [C10]; · iexact C10
    isplitl [C11]; · iexact C11
    isplitl [C12]; · iexact C12
    iexact Hr
  iintro ⟨HF, ⟨A10, A11, A12⟩, HR⟩
  try dsimp only
  rw [wp_bind]
  iapply (part9_run I c) $$ HR
  iintro HR
  try dsimp only
  rw [wp_bind]
  iapply (part10_run I c) $$ []
  · iempintro
  iintro %v385
  try dsimp only
  rw [wp_bind]
  iapply (part11_run I κ c) $$ [HF C30 Hz]
  · isplitr; · iexact HI
    isplitl [HF]; · iexact HF
    isplitl [C30]; · iexact C30
    iexact Hz
  iintro %v4 ⟨HF, A30, Hz, P30⟩
  try dsimp only
  rw [wp_bind]
  iapply (part12_run I κ c) $$ [HF C31]
  · isplitr; · iexact HI
    isplitl [HF]; · iexact HF
    iexact C31
  iintro ⟨HF, A31, P31⟩
  try dsimp only
  rw [wp_bind]
  iapply (part13_run I κ c) $$ [HF C32 D0 D1 D2 E0 A00 A01 A02 A20 Hout]
  · unfold cellRes
    isplitr; · iexact HI
    isplitl [HF]; · iexact HF
    isplitl [C32]; · iexact C32
    isplitl [D0 A00]
    · isplitl [D0]; · iexact D0
      iexact A00
    isplitl [D1 A01]
    · isplitl [D1]; · iexact D1
      iexact A01
    isplitl [D2 A02]
    · isplitl [D2]; · iexact D2
      iexact A02
    isplitl [E0 A20]
    · isplitl [E0]; · iexact E0
      iexact A20
    iexact Hout
  iintro ⟨HF, ⟨A32, P32⟩, ⟨A00, H0⟩, ⟨A01, H1⟩, ⟨A02, H2⟩, ⟨A20, B0⟩, Hout⟩
  simp only [Prog.lift, Prog.bind_op, Prog.bind_ret, Prog.pure_eq_ret]
  iapply (wait_other I κ c 2 1 (sem_eq 2 _ rfl (k0_off1_eq c 1)) (blk_credit _)) $$ [HF E1 A21]
  · unfold cellRes
    isplitr; · iexact HI
    isplitl [HF]; · iexact HF
    isplitl [E1]; · iexact E1
    iexact A21
  iintro ⟨HF, A21, B1⟩
  iapply (wait_other I κ c 2 2 (sem_eq 2 _ rfl (k0_off1_eq c 2)) (blk_credit _)) $$ [HF E2 A22]
  · unfold cellRes
    isplitr; · iexact HI
    isplitl [HF]; · iexact HF
    isplitl [E2]; · iexact E2
    iexact A22
  iintro ⟨HF, A22, B2⟩
  rw [runs, wp_ret]; imodintro
  unfold dmaPay done
  dsimp only
  iapply HK
  isplitl [HF]; · iexact HF
  isplitl [Abar]; · iexact Abar
  isplitl [Hx Hrow Hcol]
  · isplitl [Hx]; · iexact Hx
    isplitl [Hrow]; · iexact Hrow
    iexact Hcol
  isplitl [Hout]; · iexact Hout
  isplitl [Hp H0 H1 H2]
  · iexists (cnt I c)
    iapply (own_shares c (cnt I c)).2
    isplitl [Hp]; · iexact Hp
    isplitl [H0]; · iexact H0
    isplitl [H1]; · iexact H1
    iexact H2
  isplitl [HR]; · iexact HR
  isplitl [Hz]; · iexists _; iexact Hz
  isplitl [B0 P30 A00 A10 A20 A30]
  · isplitl [B0]; · iexists _; iexact B0
    isplitl [P30]; · iexists _; iexact P30
    isplitl [A00]; · iexact A00
    isplitl [A10]; · iexact A10
    isplitl [A20]; · iexact A20
    iexact A30
  isplitl [B1 P31 A01 A11 A21 A31]
  · isplitl [B1]; · iexists _; iexact B1
    isplitl [P31]; · iexists _; iexact P31
    isplitl [A01]; · iexact A01
    isplitl [A11]; · iexact A11
    isplitl [A21]; · iexact A21
    iexact A31
  · isplitl [B2]; · iexists _; iexact B2
    isplitl [P32]; · iexists _; iexact P32
    isplitl [A02]; · iexact A02
    isplitl [A12]; · iexact A12
    isplitl [A22]; · iexact A22
    iexact A32

end Cert.Proof
-- ==== Proof.Scratch.lean ====
/-
The scratch buffers cut into the parts that the exchange passes around, and put together again.
-/
module

public import proofs.«01_k».proof.Proof.Body

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

/-- Every element type has a value. -/
theorem elt_nonempty (e : EltTy) : Nonempty (Elt F e) := by
  cases e <;> first | exact ⟨(0 : BitVec _)⟩ | exact ⟨FloatOps.ofBits _ 0⟩

/-- A buffer cut into parts that cover it: held at some contents, it is its parts held at some contents. -/
theorem parts_any (c : Dev nD) {sh : Shape} {e : EltTy} (m : Memref sig .tc .vmem sh e) (r : Fin 4 → Rect sh) (hr : ∀ t a, (r t).stride a = 1)
    (hd : ∀ t t', t ≠ t' → Disjoint (r t).set (r t').set) (hcov : (Finset.univ : Finset (Fin 4)).biUnion (fun t => (r t).set) = Finset.univ) :
    (iprop(∃ X, owns (c : Thread nD τ) m fullShare X) : sProp 𝕄)
      ⊣⊢ bigSep Finset.univ fun t => iprop(∃ Y, owns (c : Thread nD τ) (m.slice (r t) (hr t)) fullShare Y) := by
  haveI : ∀ e, Nonempty (Elt F e) := elt_nonempty
  constructor
  · refine (ownsSat_true (c : Thread nD τ) m fullShare).2.trans ?_
    refine (ownsSat_mono (c : Thread nD τ) m fullShare fun X _ => ?_).trans ((ownsSat_rects (c : Thread nD τ) m fullShare r hr hd hcov fun _ _ => True).trans ?_)
    · exact fun _ => trivial
    · exact bigSep_mono fun t _ => (ownsSat_true (c : Thread nD τ) (m.slice (r t) (hr t)) fullShare).1
  · refine (bigSep_mono fun t _ => (ownsSat_true (c : Thread nD τ) (m.slice (r t) (hr t)) fullShare).2).trans ?_
    exact (ownsSat_of_rects (c : Thread nD τ) m fullShare r hr hd hcov fun _ _ => True).trans (ownsSat_any (c : Thread nD τ) m fullShare)

/-! ## The two cuts -/

/-- The four blocks of 288 rows. -/
abbrev blkRect (s : Fin 4) : Rect S1152x512 := Rect.unit (s := S1152x512) ![288 * s.val, 0] S288x512.size (blk_inb s)
/-- The four rows of counts. -/
abbrev rowRect (s : Fin 4) : Rect S4x1x128 := Rect.unit (s := S4x1x128) ![s.val, 0, 0] S1x1x128.size (row_inb s)

theorem blk_disj (t t' : Fin 4) (h : t ≠ t') : Disjoint (blkRect t).set (blkRect t').set := by
  refine Rect.unit_disjoint (0 : Fin 2) ?_
  have h : t.val ≠ t'.val := fun e => h (Fin.ext e)
  show 288 * t.val + 288 ≤ 288 * t'.val ∨ 288 * t'.val + 288 ≤ 288 * t.val
  omega
theorem row_disj (t t' : Fin 4) (h : t ≠ t') : Disjoint (rowRect t).set (rowRect t').set := by
  refine Rect.unit_disjoint (0 : Fin 3) ?_
  have h : t.val ≠ t'.val := fun e => h (Fin.ext e)
  show t.val + 1 ≤ t'.val ∨ t'.val + 1 ≤ t.val
  omega
theorem blk_cover : (Finset.univ : Finset (Fin 4)).biUnion (fun t => (blkRect t).set) = Finset.univ := by
  refine Finset.eq_univ_of_forall fun i => ?_
  have h0 : (i 0).val < 1152 := (i 0).isLt
  have h1 : (i 1).val < 512 := (i 1).isLt
  refine Finset.mem_biUnion.mpr ⟨⟨(i 0).val / 288, by omega⟩, Finset.mem_univ _, Rect.mem_set_unit.mpr fun a => ?_⟩
  match a with
  | ⟨0, _⟩ => show 288 * ((i 0).val / 288) ≤ (i 0).val ∧ (i 0).val < 288 * ((i 0).val / 288) + 288; omega
  | ⟨1, _⟩ => show 0 ≤ (i 1).val ∧ (i 1).val < 0 + 512; omega
theorem row_cover : (Finset.univ : Finset (Fin 4)).biUnion (fun t => (rowRect t).set) = Finset.univ := by
  refine Finset.eq_univ_of_forall fun i => ?_
  have h0 : (i 0).val < 4 := (i 0).isLt
  have h1 : (i 1).val < 1 := (i 1).isLt
  have h2 : (i 2).val < 128 := (i 2).isLt
  refine Finset.mem_biUnion.mpr ⟨⟨(i 0).val, h0⟩, Finset.mem_univ _, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 1; omega
  | ⟨2, _⟩ => show 0 ≤ (i 2).val ∧ (i 2).val < 0 + 128; omega

/-! ## The four scratch buffers -/

/-- A device's scratch buffers, at whatever they hold, in the parts that the exchange uses. -/
def scratch (c : Dev nD) : sProp 𝕄 :=
  iprop((bigSep Finset.univ fun s => iprop(∃ Y, owns (c : Thread nD τ) (sBlk s) fullShare Y))
    ∗ (bigSep Finset.univ fun s => iprop(∃ Y, owns (c : Thread nD τ) (rBlk s) fullShare Y))
    ∗ (∃ Y, owns (c : Thread nD τ) cOwn fullShare Y)
    ∗ bigSep Finset.univ fun s => iprop(∃ Y, owns (c : Thread nD τ) (cPart s) fullShare Y))

theorem scratch_eq (c : Dev nD) :
    (Pipeline.scopedRest (Ix := Unit) (Name := ℕ) (U := UU) (Lvl := ℕ) (Val := Elt F) spec0 c : sProp 𝕄) ⊣⊢ scratch c := by
  have h0 := parts_any (F := F) c (Memref.whole cc0_scratch0 : Memref sig .tc .vmem S1152x512 .bf16) blkRect (fun _ _ => rfl) blk_disj blk_cover
  have h1 := parts_any (F := F) c (Memref.whole cc0_scratch1 : Memref sig .tc .vmem S1152x512 .bf16) blkRect (fun _ _ => rfl) blk_disj blk_cover
  have h3 := parts_any (F := F) c (Memref.whole cc0_scratch3 : Memref sig .tc .vmem S4x1x128 .i32) rowRect (fun _ _ => rfl) row_disj row_cover
  simp only [owns_whole] at h0 h1 h3
  rw [scopedRest0_eq]
  unfold scratch
  simp only [owns_whole]
  exact ⟨BI.sep_mono h0.1 (BI.sep_mono h1.1 (BI.sep_mono (BI.Entails.refl _) h3.1)), BI.sep_mono h0.2 (BI.sep_mono h1.2 (BI.sep_mono (BI.Entails.refl _) h3.2))⟩

end Cert.Proof
-- ==== Proof.Places.lean ====
/-
What a device holds for each place of its group when the kernel starts and when it ends, and how its own semaphores are opened
at the start and closed at the end.
-/
module

public import proofs.«01_k».proof.Proof.Scratch

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

/-! ## For each place -/

/-- The device's own DMA semaphores, by place and kind. -/
def osem (p : Fin 4 × Fin 4) : SemLoc sig := .dma (dsem p.2 p.1)
theorem osem_inj : Function.Injective osem := fun p q h => by
  obtain ⟨h2, h1⟩ := dsem_inj (SemLoc.dma.inj h); exact Prod.ext h1 h2

/-- The duties that the device pays towards place `s`. -/
def duties (s : Fin 4) : sProp 𝕄 :=
  iprop(dutyTok ER (barCell (mate c s)) 0 (place c) ∗ dutyTok ER (dcell c 0 s) 0 0 ∗ dutyTok ER (dcell c 2 s) 0 0
    ∗ dutyTok ER (dcell (mate c s) 1 (place c)) 0 0 ∗ dutyTok ER (dcell (mate c s) 3 (place c)) 0 0)
/-- What the cell of kind `k` for place `s` will be paid by others. -/
def due (s k : Fin 4) : ℕ := if s = place c then 0 else if k = 1 then Nc else if k = 3 then Nb else 0
/-- The credits for what will be paid to the cells for place `s`. -/
def credits (s : Fin 4) : sProp 𝕄 := bigSep Finset.univ fun k : Fin 4 => cred (tallyAt (dcell c k s) () (due c s k))
/-- The cells for place `s`, just opened. -/
def opened (s : Fin 4) : sProp 𝕄 := bigSep Finset.univ fun k : Fin 4 => iprop(atPos ER (dcell c k s) 0 ∅ 0 ∗ reached ER (dcell c k s) 0)
/-- The cells for place `s`, each at round `r`. -/
def cells (r : ℕ) (s : Fin 4) : sProp 𝕄 := bigSep Finset.univ fun k : Fin 4 => atPos ER (dcell c k s) r ∅ 0
/-- The counters for place `s`, at zero. -/
def zeros (s : Fin 4) : sProp 𝕄 := bigSep Finset.univ fun k : Fin 4 => semVal (dcell c k s) 0

theorem ownSems_eq : (Pipeline.ownSems0 osem c : sProp 𝕄) = bigSep Finset.univ (zeros c) := by
  unfold Pipeline.ownSems0; rw [bigSep_univ_prod]; rfl

/-- All that the device holds for its `k`-th peer is what the exchange with it starts from. -/
theorem start_of (k : Fin 3) :
    (iprop(duties c (other c k) ∗ credits c (other c k) ∗ opened c (other c k)
      ∗ (∃ Y, owns (c : Thread nD τ) (sBlk (other c k)) fullShare Y) ∗ (∃ Y, owns (c : Thread nD τ) (rBlk (other c k)) fullShare Y)
      ∗ (∃ Y, owns (c : Thread nD τ) (cPart (other c k)) fullShare Y)) : sProp 𝕄) ⊢ start c k := by
  unfold duties credits opened start sigRes cellRes
  rw [bigSep_four, bigSep_four, show due c (other c k) 1 = Nk 1 from by unfold due; rw [if_neg (other_ne c k)]; rfl,
    show due c (other c k) 3 = Nk 3 from by unfold due; rw [if_neg (other_ne c k)]; rfl]
  iintro ⟨⟨T0, T1, T2, T3, T4⟩, ⟨-, C1, -, C3⟩, ⟨⟨A0, R0⟩, ⟨A1, R1⟩, ⟨A2, R2⟩, ⟨A3, R3⟩⟩, Hs, Hr, ⟨%Y, Hc⟩⟩
  isplitl [T0 Hr Hc R1 R3]
  · isplitl [T0]; · iexact T0
    isplitl [Hc]; · iapply (part_row_any c (other c k) fullShare Y); iexact Hc
    isplitl [Hr]; · iexact Hr
    isplitl [R1]; · iexact R1
    iexact R3
  isplitl [Hs]; · iexact Hs
  isplitl [T1 R0]
  · isplitl [T1]; · iexact T1
    iexact R0
  isplitl [T2 R2]
  · isplitl [T2]; · iexact T2
    iexact R2
  isplitl [T3]; · iexact T3
  isplitl [T4]; · iexact T4
  isplitl [C1 A1]
  · isplitl [C1]; · iexact C1
    iexact A1
  isplitl [C3 A3]
  · isplitl [C3]; · iexact C3
    iexact A3
  isplitl [A0]; · iexact A0
  iexact A2

/-- What the exchange with the `k`-th peer leaves: the two blocks and the cells, all one round on. -/
theorem done_to (k : Fin 3) :
    (done c k : sProp 𝕄) ⊢ iprop(((∃ Y, owns (c : Thread nD τ) (sBlk (other c k)) fullShare Y)
      ∗ (∃ Y, owns (c : Thread nD τ) (rBlk (other c k)) fullShare Y)) ∗ cells c 1 (other c k)) := by
  unfold done cells
  rw [bigSep_four]
  iintro ⟨Hs, Hr, A0, A1, A2, A3⟩
  isplitl [Hs Hr]
  · isplitl [Hs]; · iexact Hs
    iexact Hr
  isplitl [A0]; · iexact A0
  isplitl [A1]; · iexact A1
  isplitl [A2]; · iexact A2
  iexact A3

/-! ## Opening and closing the device's own semaphores -/

theorem open_cells :
    iprop(invs I κ ∗ (bigSep Finset.univ fun p : Fin 4 × Fin 4 => openTok ER (dcell c p.2 p.1)) ∗ Pipeline.ownSems0 osem c)
      ⊢ (|={Set.univ}=> bigSep Finset.univ (opened c) : sProp 𝕄) := by
  refine BIBase.Entails.trans ?_ ((Rounds.cells_open ER (Rd I) (Finset.univ : Finset (Fin 4 × Fin 4)) (fun p => dcell c p.2 p.1)
    (fun p => κ (dcell c p.2 p.1)) (fun _ _ => Set.mem_univ _)).trans (Entails.of_eq ?_))
  · iintro ⟨#HI, HT, HS⟩
    isplitl [HT]
    · iapply (bigSep_with_persistent (R := invs I κ) (Φ := fun p : Fin 4 × Fin 4 => openTok ER (dcell c p.2 p.1)) fun p _ => by
        iintro ⟨#HI, H⟩
        isplitr; · iapply (invs_dma I κ c p.2 p.1); iexact HI
        iexact H)
      isplitr; · iexact HI
      iexact HT
    unfold Pipeline.ownSems0; iexact HS
  · rw [bigSep_univ_prod]; rfl

theorem close_cells (r : ℕ) (s : Fin 4) (h : ∀ k, ∀ r', r ≤ r' → (Rd I).duties (dcell c k s) r' = ∅) :
    iprop(invs I κ ∗ cells c r s) ⊢ (|={Set.univ}=> zeros c s : sProp 𝕄) := by
  refine BIBase.Entails.trans ?_ (Rounds.cells_close ER (Rd I) (Finset.univ : Finset (Fin 4)) (fun k => dcell c k s)
    (fun k => κ (dcell c k s)) (fun _ _ => Set.mem_univ _) (fun _ _ => id) (fun _ => r) (fun k _ => h k))
  unfold cells
  iintro ⟨#HI, HS⟩
  iapply (bigSep_with_persistent (R := invs I κ) (Φ := fun k : Fin 4 => atPos ER (dcell c k s) r ∅ 0) fun k _ => by
    iintro ⟨#HI, H⟩
    isplitr; · iapply (invs_dma I κ c k s); iexact HI
    iexact H)
  isplitr; · iexact HI
  iexact HS

/-- At the end every one of the device's own counters, and its barrier's, reads zero. -/
theorem close_all :
    iprop(invs I κ ∗ atPos ER (barCell c) 1 ∅ 0 ∗ cells c 0 (place c) ∗ cells c 1 (other c 0) ∗ cells c 1 (other c 1) ∗ cells c 1 (other c 2))
      ⊢ (|={Set.univ}=> iprop(semVal (barCell c) 0 ∗ Pipeline.ownSems0 osem c) : sProp 𝕄) := by
  rw [ownSems_eq, bigSep_places c]
  iintro ⟨#HI, Hb, H, H0, H1, H2⟩
  imod (Rounds.cell_close ER (Rd I) (Set.mem_univ (κ (barCell c))) id (fun r h => duties_later I (barCell c) r h)) $$ [Hb] with Hb
  · isplitr; · iapply (invs_bar I κ c); iexact HI
    iexact Hb
  imod (close_cells I κ c 0 (place c) fun k r _ => duties_own I c k r) $$ [H] with H
  · isplitr; · iexact HI
    iexact H
  imod (close_cells I κ c 1 (other c 0) fun k r h => duties_later I _ r h) $$ [H0] with H0
  · isplitr; · iexact HI
    iexact H0
  imod (close_cells I κ c 1 (other c 1) fun k r h => duties_later I _ r h) $$ [H1] with H1
  · isplitr; · iexact HI
    iexact H1
  imod (close_cells I κ c 1 (other c 2) fun k r h => duties_later I _ r h) $$ [H2] with H2
  · isplitr; · iexact HI
    iexact H2
  imodintro
  isplitl [Hb]; · iexact Hb
  isplitl [H]; · iexact H
  isplitl [H0]; · iexact H0
  isplitl [H1]; · iexact H1
  iexact H2

end Cert.Proof
-- ==== Proof.Region.lean ====
/-
The kernel's region of the program: what enters it, what it leaves, and its body's obligation.
-/
module

public import proofs.«01_k».proof.Proof.Places

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ
open Idealize.ShloMosaic.Pipeline (Dat BodyObligation)

variable (m : (ℓ : Loc nD τ sig) → Buf (Elt F) ℓ) (c : Dev nD)

/-! ## The proof data -/

/-- What each device's three input windows hold. -/
def ins : Ins F where
  x c := iblk m c 0 t0_0
  row c := iblk m c 1 t0_0
  col c := iblk m c 2 t0_0

/-- The ghost state that the launch deals to a device. -/
def ghost : sProp 𝕄 :=
  iprop(∃ κ, invs (ins m) κ ∗ atPos ER (barCell c) 0 ∅ 0 ∗ (bigSep Finset.univ fun p : Fin 4 × Fin 4 => openTok ER (dcell c p.2 p.1))
    ∗ bigSep Finset.univ (duties c))
/-- The credits of a device: three signals at its barrier, and what its own cells will be paid. -/
def credit : sProp 𝕄 := iprop(cred (tallyAt (barCell c) () 3) ∗ bigSep Finset.univ (credits c))
/-- What waits for the region, and what enters it once the device's own cells are open. -/
def waiting : sProp 𝕄 := iprop(ghost m c ∗ credit c)
def entering : sProp 𝕄 :=
  iprop((∃ κ, invs (ins m) κ ∗ atPos ER (barCell c) 0 ∅ 0 ∗ bigSep Finset.univ (opened c) ∗ bigSep Finset.univ (duties c)) ∗ credit c ∗ levAts L lv)

/-- Before the body and after it. -/
def before : sProp 𝕄 := iprop(entering m c ∗ scratch c ∗ ∃ r, prngReg c r)
def left : sProp 𝕄 := iprop((semVal (barCell c) 0 ∗ Pipeline.ownSems0 osem c) ∗ scratch c ∗ ∃ r, prngReg c r)

def dat : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (ins m) c
    | ⟨_ + 4, h⟩ => absurd h (Nat.not_lt.2 (Nat.le_add_left _ _))
  Φ t := if t.val = 0 then before m c else left c
  q _ := fullShare
  owed t := if t.val = 0 then O₀ c else 0

theorem owed_eq (t : Fin (cfg0.N + 1)) : (dat m c).owed t = if t.val = 0 then O₀ c else 0 := rfl
theorem inv_eq (t : Fin (cfg0.N + 1)) : (dat m c).Φ t = if t.val = 0 then before m c else left c := rfl
theorem last_ne : (Fin.last cfg0.N).val ≠ 0 := by rw [Fin.val_last, show cfg0.N = 1 from N_0]; decide
theorem succ_ne (t : Fin cfg0.N) : t.succ.val ≠ 0 := by rw [Fin.val_succ]; exact Nat.succ_ne_zero _
theorem zero_eq : (0 : Fin (cfg0.N + 1)).val = 0 := rfl
theorem first_eq : (t0_0.castSucc : Fin (cfg0.N + 1)).val = 0 := rfl
theorem owed_zero : (dat m c).owed 0 = O₀ c := by rw [owed_eq, if_pos zero_eq]
theorem owed_first : (dat m c).owed t0_0.castSucc = O₀ c := by rw [owed_eq, if_pos first_eq]
theorem owed_last : (dat m c).owed (Fin.last _) = 0 := by rw [owed_eq, if_neg last_ne]
theorem owed_succ : (dat m c).owed t0_0.succ = 0 := by rw [owed_eq, if_neg (succ_ne _)]
theorem inv_zero : (dat m c).Φ 0 = before m c := by rw [inv_eq, if_pos zero_eq]
theorem inv_first : (dat m c).Φ t0_0.castSucc = before m c := by rw [inv_eq, if_pos first_eq]
theorem inv_succ : (dat m c).Φ t0_0.succ = left c := by rw [inv_eq, if_neg (succ_ne _)]
theorem inv_last : (dat m c).Φ (Fin.last _) = left c := by rw [inv_eq, if_neg last_ne]

/-- An input window holds its block before the body. -/
theorem before_0 (t : Fin cfg0.N) (d) : (dat m c).before 0 t d = iblk m c 0 t :=
  ((dat m c).before_in_eq_fetched 0 rfl (fun _ => rfl) (fun _ _ _ => rfl) (fun _ => rfl) t d).trans rfl
theorem before_1 (t : Fin cfg0.N) (d) : (dat m c).before 1 t d = iblk m c 1 t :=
  ((dat m c).before_in_eq_fetched 1 rfl (fun _ => rfl) (fun _ _ _ => rfl) (fun _ => rfl) t d).trans rfl
theorem before_2 (t : Fin cfg0.N) (d) : (dat m c).before 2 t d = iblk m c 2 t :=
  ((dat m c).before_in_eq_fetched 2 rfl (fun _ => rfl) (fun _ _ _ => rfl) (fun _ => rfl) t d).trans rfl

theorem owes_in (W : Waits sig Unit) : (owes (c : Thread nD τ) 0 W : sProp 𝕄) ⊢ (dat m c).owesAt () t0_0.succ := by
  unfold Dat.owesAt Pipeline.owesWithin Dat.bound
  rw [owed_succ m c]
  iintro HO; iexists W
  isplitr; · ipureintro; exact fun _ _ => Or.inl trivial
  iexact HO
theorem owes_out : ((dat m c).owesAt () t0_0.castSucc : sProp 𝕄) ⊢ iprop(∃ W, owes (c : Thread nD τ) (O₀ c) W) := by
  unfold Dat.owesAt Pipeline.owesWithin
  rw [owed_first m c]
  iintro ⟨%W, -, HO⟩; iexists W; iexact HO

/-! ## The body -/

/-- The windows before the body, the result's at whatever it holds. -/
def wins : sProp 𝕄 := iprop(inputs (ins m) c ∗ ∃ X, owns (c : Thread nD τ) (Memref.whole cc0_stg3_0) fullShare X)
/-- The windows after it. -/
def winsOut : sProp 𝕄 := iprop(inputs (ins m) c ∗ owns (c : Thread nD τ) (Memref.whole cc0_stg3_0) fullShare (out (ins m) c))

theorem region_run :
    iprop(before m c ∗ (∃ W, owes (c : Thread nD τ) (O₀ c) W) ∗ wins m c)
      ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) fun _ => iprop(left c ∗ free c ∗ winsOut m c) := by
  refine BIBase.Entails.trans ?_ (wp_fupd _ _ _ _ _)
  unfold before entering credit scratch wins winsOut
  rw [bigSep_places c (opened c), bigSep_places c (duties c), bigSep_places c (credits c),
    bigSep_places c fun s => iprop(∃ Y, owns (c : Thread nD τ) (sBlk s) fullShare Y),
    bigSep_places c fun s => iprop(∃ Y, owns (c : Thread nD τ) (rBlk s) fullShare Y),
    bigSep_places c fun s => iprop(∃ Y, owns (c : Thread nD τ) (cPart s) fullShare Y)]
  iintro ⟨⟨⟨⟨%κ, #HI, Ab, ⟨A, A0, A1, A2⟩, ⟨-, T0, T1, T2⟩⟩, ⟨Cb, ⟨-, C0, C1, C2⟩⟩, #Hlev⟩,
    ⟨⟨S, S0, S1, S2⟩, ⟨R, R0, R1, R2⟩, Hc, ⟨P, P0, P1, P2⟩⟩, Hp⟩, ⟨%W, HO⟩, Hin, Hout⟩
  iapply (body_run (ins m) κ c (W := W)) $$ [Ab A0 A1 A2 T0 T1 T2 Cb C0 C1 C2 S0 S1 S2 R R0 R1 R2 Hc P P0 P1 P2 HO Hin Hout]
  · isplitr; · iexact HI
    isplitr; · iexact Hlev
    isplitl [HO]; · iexact HO
    isplitl [Cb Ab]
    · isplitl [Cb]; · iexact Cb
      iexact Ab
    isplitl [Hin]; · iexact Hin
    isplitl [Hout]; · iexact Hout
    isplitl [Hc]; · iexact Hc
    isplitl [P]; · iexact P
    isplitl [R]; · iexact R
    isplitl [T0 C0 A0 S0 R0 P0]
    · iapply (start_of c 0)
      isplitl [T0]; · iexact T0
      isplitl [C0]; · iexact C0
      isplitl [A0]; · iexact A0
      isplitl [S0]; · iexact S0
      isplitl [R0]; · iexact R0
      iexact P0
    isplitl [T1 C1 A1 S1 R1 P1]
    · iapply (start_of c 1)
      isplitl [T1]; · iexact T1
      isplitl [C1]; · iexact C1
      isplitl [A1]; · iexact A1
      isplitl [S1]; · iexact S1
      isplitl [R1]; · iexact R1
      iexact P1
    · iapply (start_of c 2)
      isplitl [T2]; · iexact T2
      isplitl [C2]; · iexact C2
      isplitl [A2]; · iexact A2
      isplitl [S2]; · iexact S2
      isplitl [R2]; · iexact R2
      iexact P2
  unfold rows
  iintro ⟨HF, Ab, Hin, Hout, Hc, ⟨P0, P1, P2, P3⟩, R, D0, D1, D2⟩
  ihave D0 := (done_to c 0) $$ D0
  icases D0 with ⟨⟨S0, R0⟩, A0⟩
  ihave D1 := (done_to c 1) $$ D1
  icases D1 with ⟨⟨S1, R1⟩, A1⟩
  ihave D2 := (done_to c 2) $$ D2
  icases D2 with ⟨⟨S2, R2⟩, A2⟩
  imod (close_all (ins m) κ c) $$ [Ab A A0 A1 A2] with Hz
  · isplitr; · iexact HI
    isplitl [Ab]; · iexact Ab
    isplitl [A]
    · unfold opened cells
      iapply (show (bigSep Finset.univ fun k : Fin 4 => iprop(atPos ER (dcell c k (place c)) 0 ∅ 0 ∗ reached ER (dcell c k (place c)) 0))
        ⊢ (bigSep Finset.univ fun k : Fin 4 => atPos ER (dcell c k (place c)) 0 ∅ 0 : sProp 𝕄) from bigSep_mono fun k _ =>
          BI.sep_and.trans BI.and_elimL)
      iexact A
    isplitl [A0]; · iexact A0
    isplitl [A1]; · iexact A1
    iexact A2
  imodintro
  isplitr [HF Hin Hout]
  · unfold left scratch
    rw [bigSep_places c fun s => iprop(∃ Y, owns (c : Thread nD τ) (sBlk s) fullShare Y),
      bigSep_places c fun s => iprop(∃ Y, owns (c : Thread nD τ) (rBlk s) fullShare Y), bigSep_four]
    isplitl [Hz]; · iexact Hz
    isplitr [Hp]
    · isplitl [S S0 S1 S2]
      · isplitl [S]; · iexact S
        isplitl [S0]; · iexact S0
        isplitl [S1]; · iexact S1
        iexact S2
      isplitl [R R0 R1 R2]
      · isplitl [R]; · iexact R
        isplitl [R0]; · iexact R0
        isplitl [R1]; · iexact R1
        iexact R2
      isplitl [Hc]; · iexact Hc
      isplitl [P0]; · iexists _; iexact P0
      isplitl [P1]; · iexists _; iexact P1
      isplitl [P2]; · iexists _; iexact P2
      iexists _; iexact P3
    iexact Hp
  isplitl [HF]; · iexact HF
  isplitl [Hin]; · iexact Hin
  iexact Hout

theorem body_obligation : BodyObligation (dat m c) defs₀ 𝒱₀ () Set.univ := fun t => by
  rw [fin_N0 t, bigSep_W0, bigSep_W0, inv_first, inv_succ]
  simp only [before_0, before_1, before_2]
  show _ ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) _
  refine BIBase.Entails.trans ?_ ((region_run m c).trans (wp_mono _ _ _ fun _ => ?_))
  · unfold wins inputs
    iintro ⟨HB, HO, ⟨%_, H0⟩, ⟨%_, H1⟩, ⟨%_, H2⟩, ⟨%d, H3⟩⟩
    isplitl [HB]; · iexact HB
    isplitl [HO]; · iapply (owes_out m c); iexact HO
    isplitl [H0 H1 H2]
    · isplitl [H0]; · iexact H0
      isplitl [H1]; · iexact H1
      iexact H2
    iexists _; iexact H3
  · unfold free winsOut inputs
    iintro ⟨HL, ⟨%W, HO⟩, ⟨H0, H1, H2⟩, H3⟩
    isplitl [HL]; · iexact HL
    isplitl [HO]; · iapply (owes_in m c W); iexact HO
    isplitl [H0]; · iexact H0
    isplitl [H1]; · iexact H1
    isplitl [H2]; · iexact H2
    iexact H3

end Cert.Proof
-- ==== Proof.Credit.lean ====
/-
What the devices are owed at the launch: the debts of all devices, counted at each cell.
-/
module

public import proofs.«01_k».proof.Proof.Region

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

/-! ## The debts of all devices, by the cell they are owed to -/

/-- What is owed to the device `p.1` by the one at place `p.2` of its group, at cell `g`. -/
def owedTo (p : Dev nD × Fin 4) (g : GSem nD τ sig) : ℕ :=
  (if g = barCell p.1 then 1 else 0) + (if g = dcell p.1 1 p.2 then Nc else 0) + if g = dcell p.1 3 p.2 then Nb else 0

theorem owed_apply (d : Dev nD) (g : GSem nD τ sig) : O₀ d g () = ∑ t ∈ Finset.univ.erase (place d), owedTo (swap (d, t)) g := by
  have e (x : GSem nD τ sig × ℕ) (l) : owedL (x :: l) g () = owedL l g () + if g = x.1 then x.2 else 0 := by
    show owedL l g () + tallyAt x.1 () x.2 g () = _
    rw [tallyAt_apply]; simp
  have e0 : owedL [] g () = 0 := rfl
  rw [others_eq, List.sum_toFinset _ (others_nodup d)]
  unfold O₀ barDebts copyDebts
  simp only [List.cons_append, List.nil_append, e, e0, List.map_cons, List.map_nil, List.sum_cons, List.sum_nil]
  have sums (A B C : Fin 3 → ℕ) : 0 + C 2 + C 1 + C 0 + B 2 + B 1 + B 0 + A 2 + A 1 + A 0
      = A 0 + B 0 + C 0 + (A 1 + B 1 + C 1 + (A 2 + B 2 + C 2 + 0)) := by omega
  exact sums (fun k => if g = barCell (peer d k) then 1 else 0) (fun k => if g = (cntDebt d k).1 then Nc else 0)
    (fun k => if g = (blkDebt d k).1 then Nb else 0)

theorem owed_total (g : GSem nD τ sig) :
    ∑ d, O₀ d g () = ∑ c : Dev nD, ∑ s : Fin 4, if s = place c then 0 else owedTo (c, s) g := by
  have h (d : Dev nD) : O₀ d g () = ∑ t : Fin 4, if t = place d then 0 else owedTo (swap (d, t)) g := by
    rw [owed_apply, ← Finset.add_sum_erase Finset.univ _ (Finset.mem_univ (place d)), if_pos rfl, Nat.zero_add]
    exact Finset.sum_congr rfl fun t ht => (if_neg (Finset.ne_of_mem_erase ht)).symm
  simp only [h]
  rw [← Fintype.sum_prod_type' (f := fun (d : Dev nD) (t : Fin 4) => if t = place d then 0 else owedTo (swap (d, t)) g),
    ← Fintype.sum_prod_type' (f := fun (c : Dev nD) (s : Fin 4) => if s = place c then 0 else owedTo (c, s) g)]
  refine Fintype.sum_equiv swap _ _ fun p => ?_
  have : (p.2 = place p.1) ↔ ((swap p).2 = place (swap p).1) := by simp only [swap, Equiv.coe_fn_mk, place_mate]; exact eq_comm
  simp only [this]

/-- A device's cells are told apart by the device. -/
theorem cell_dev {c c' : Dev nD} {a b : SemLoc sig} (h : (((c : Thread nD τ), a) : GSem nD τ sig) = ((c' : Thread nD τ), b)) : c = c' ∧ a = b :=
  ⟨congrArg (fun g : GSem nD τ sig => g.1.1) h, congrArg Prod.snd h⟩
theorem dcell_inj {c c' : Dev nD} {k k' i i' : Fin 4} (h : dcell c k i = dcell c' k' i') : c = c' ∧ k = k' ∧ i = i' :=
  ⟨(cell_dev h).1, dsem_inj (SemLoc.dma.inj (cell_dev h).2)⟩
theorem bar_ne_dma {c c' : Dev nD} {k i : Fin 4} : barCell c ≠ dcell c' k i := fun h => by cases (cell_dev h).2

theorem owedTo_bar (c d : Dev nD) (s : Fin 4) : owedTo (d, s) (barCell c) = if c = d then 1 else 0 := by
  unfold owedTo
  rw [if_neg (bar_ne_dma (k := 1)), if_neg (bar_ne_dma (k := 3))]
  by_cases h : c = d
  · rw [if_pos h, if_pos (by rw [h])]
  · rw [if_neg h, if_neg (fun e => h (cell_dev e).1)]
theorem owedTo_dma (c d : Dev nD) (k s t : Fin 4) :
    owedTo (d, t) (dcell c k s) = if c = d ∧ s = t then (if k = 1 then Nc else if k = 3 then Nb else 0) else 0 := by
  have e (k' : Fin 4) : dcell c k s = dcell d k' t ↔ (c = d ∧ s = t) ∧ k = k' :=
    ⟨fun h => ⟨⟨(dcell_inj h).1, (dcell_inj h).2.2⟩, (dcell_inj h).2.1⟩, fun h => by rw [h.1.1, h.1.2, h.2]⟩
  have e0 : ¬ dcell c k s = barCell d := fun h => bar_ne_dma h.symm
  unfold owedTo
  simp only [e, e0, if_false, Nat.zero_add]
  by_cases h : c = d ∧ s = t
  · simp only [h, true_and, if_true, and_self]
    revert k; intro k
    by_cases h1 : k = 1
    · subst h1; simp
    · simp [h1]
  · simp only [h, false_and, if_false]

theorem total_bar (c : Dev nD) : ∑ d, O₀ d (barCell c) () = 3 := by
  rw [owed_total]
  simp only [owedTo_bar]
  rw [Finset.sum_eq_single c (fun d _ hd => by simp [Ne.symm hd]) (fun h => absurd (Finset.mem_univ c) h)]
  simp only [if_true]
  generalize place c = s; revert s; decide

theorem total_dma (c : Dev nD) (k s : Fin 4) : ∑ d, O₀ d (dcell c k s) () = due c s k := by
  rw [owed_total]
  simp only [owedTo_dma]
  rw [Finset.sum_eq_single c (fun d _ hd => by simp [Ne.symm hd]) (fun h => absurd (Finset.mem_univ c) h),
    Finset.sum_eq_single s (fun t _ ht => by simp [Ne.symm ht]) (fun h => absurd (Finset.mem_univ s) h)]
  simp only [and_self, if_true, due]

/-- The launch's credit at a cell is what all devices owe it. -/
theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
/-- A device's credits at the launch. -/
theorem creds (c : Dev nD) : (Pipeline.launchCred O₀ c : sProp 𝕄) ⊢ credit c := by
  unfold Pipeline.launchCred credit credits
  rw [bigSep_univ_at _ (SemLoc.reg barS), launch_at _ 3 (total_bar c)]
  refine sep_mono_right ?_
  rw [← bigSep_univ_prod (Φ := fun p : Fin 4 × Fin 4 => cred (tallyAt (dcell c p.2 p.1) () (due c p.1 p.2)))]
  have e : (fun p : Fin 4 × Fin 4 => (cred (tallyAt (dcell c p.2 p.1) () (due c p.1 p.2)) : sProp 𝕄))
      = fun p => cred (tallyOn ((c : Thread nD τ), osem p) (launchCredit (Pipeline.owing O₀) 0 ((c : Thread nD τ), osem p))) :=
    funext fun p => congrArg cred (launch_at (dcell c p.2 p.1) _ (total_dma c p.2 p.1)).symm
  rw [e]
  have h : Finset.univ.map ⟨osem, osem_inj⟩ ⊆ Finset.univ.erase (SemLoc.reg barS) := fun x hx => by
    obtain ⟨p, -, rfl⟩ := Finset.mem_map.mp hx
    exact Finset.mem_erase.mpr ⟨(fun h => nomatch h : osem p ≠ SemLoc.reg barS), Finset.mem_univ _⟩
  refine (bigSep_subset h).trans ?_
  rw [bigSep_map]
  exact BI.Entails.refl _

end Cert.Proof
-- ==== Proof.Tokens.lean ====
/-
The tokens of the exchange's duties, and how the launch deals positions, rights to open and tokens to the devices.
-/
module

public import proofs.«01_k».proof.Proof.Credit

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

/-! ## The cells and tokens, listed by device -/

def barEmb : Dev nD ↪ GSem nD τ sig := ⟨barCell, fun _ _ h => (cell_dev h).1⟩
def dmaEmb : Dev nD × Fin 4 × Fin 4 ↪ GSem nD τ sig :=
  ⟨fun p => dcell p.1 p.2.2 p.2.1, fun _ _ h => Prod.ext (dcell_inj h).1 (Prod.ext (dcell_inj h).2.2 (dcell_inj h).2.1)⟩
theorem barCells_eq : barCells = Finset.univ.map barEmb := by rw [Finset.map_eq_image]; rfl
theorem dmaCells_eq : dmaCells = Finset.univ.map dmaEmb := by
  ext g
  simp only [dmaCells, Finset.mem_image, Finset.mem_map, Finset.mem_univ, true_and]
  exact ⟨fun ⟨p, h⟩ => ⟨(p.1, p.2.2, p.2.1), h⟩, fun ⟨p, h⟩ => ⟨(p.1, p.2.2, p.2.1), h⟩⟩
theorem cells_disj : Disjoint barCells dmaCells := by
  rw [barCells_eq, dmaCells_eq, Finset.disjoint_left]
  intro g h h'
  obtain ⟨c, -, rfl⟩ := Finset.mem_map.mp h
  obtain ⟨p, -, e⟩ := Finset.mem_map.mp h'
  exact bar_ne_dma e.symm

/-- One token per place of every barrier, one token of every DMA cell. -/
def barToks : Finset (GSem nD τ sig × ℕ × Fin 4) :=
  Finset.univ.map ⟨fun p : Dev nD × Fin 4 => (barCell p.1, 0, p.2), fun _ _ h =>
    Prod.ext (cell_dev (congrArg Prod.fst h)).1 (congrArg (fun x => x.2.2) h)⟩
def dmaToks : Finset (GSem nD τ sig × ℕ × Fin 4) :=
  Finset.univ.map ⟨fun p : Dev nD × Fin 4 × Fin 4 => (dmaEmb p, 0, 0), fun _ _ h => dmaEmb.injective (congrArg Prod.fst h)⟩
theorem toks_disj : Disjoint barToks dmaToks := by
  rw [Finset.disjoint_left]
  intro g h h'
  obtain ⟨c, -, rfl⟩ := Finset.mem_map.mp h
  obtain ⟨p, -, e⟩ := Finset.mem_map.mp h'
  exact bar_ne_dma (congrArg Prod.fst e).symm

/-- A family of pairs is a pair of families. -/
theorem family_pair {ι : Type} [Fintype ι] (Φ Ψ : ι → sProp 𝕄) :
    (bigSep Finset.univ fun p => iprop(Φ p ∗ Ψ p)) = iprop(bigSep Finset.univ Φ ∗ bigSep Finset.univ Ψ) := bigSep_sep _ _ _

/-- The two middle ones of four, exchanged. -/
theorem middle (A B C D : sProp 𝕄) : (iprop(A ∗ B ∗ C ∗ D) : sProp 𝕄) ⊢ iprop(A ∗ C ∗ B ∗ D) := by
  iintro ⟨HA, HB, HC, HD⟩
  isplitl [HA]; · iexact HA
  isplitl [HC]; · iexact HC
  isplitl [HB]; · iexact HB
  iexact HD

/-- The tokens dealt: each device gets those of the duties it pays. -/
theorem deal_toks :
    (bigSep (barToks ∪ dmaToks) fun x => (dutyTok ER x.1 x.2.1 x.2.2 : sProp 𝕄)) = bigSep Finset.univ fun c => bigSep Finset.univ (duties c) := by
  have hb : (bigSep barToks fun x => (dutyTok ER x.1 x.2.1 x.2.2 : sProp 𝕄))
      = bigSep Finset.univ fun p : Dev nD × Fin 4 => dutyTok ER (barCell (mate p.1 p.2)) 0 (place p.1) := by
    unfold barToks
    rw [bigSep_map, bigSep_univ_equiv swap]; rfl
  have hd : (bigSep dmaToks fun x => (dutyTok ER x.1 x.2.1 x.2.2 : sProp 𝕄))
      = bigSep Finset.univ fun p : Dev nD × Fin 4 => iprop(dutyTok ER (dcell p.1 0 p.2) 0 0 ∗ dutyTok ER (dcell p.1 2 p.2) 0 0
        ∗ dutyTok ER (dcell (mate p.1 p.2) 1 (place p.1)) 0 0 ∗ dutyTok ER (dcell (mate p.1 p.2) 3 (place p.1)) 0 0) := by
    have e1 (k : Fin 4) : (bigSep Finset.univ fun p : Dev nD × Fin 4 => (dutyTok ER (dcell p.1 k p.2) 0 0 : sProp 𝕄))
        = bigSep Finset.univ fun p : Dev nD × Fin 4 => dutyTok ER (dcell (mate p.1 p.2) k (place p.1)) 0 0 :=
      bigSep_univ_equiv swap (fun p : Dev nD × Fin 4 => (dutyTok ER (dcell p.1 k p.2) 0 0 : sProp 𝕄))
    have e2 : (bigSep dmaToks fun x => (dutyTok ER x.1 x.2.1 x.2.2 : sProp 𝕄))
        = bigSep Finset.univ fun p : Dev nD × Fin 4 => bigSep Finset.univ fun k : Fin 4 => dutyTok ER (dcell p.1 k p.2) 0 0 := by
      unfold dmaToks
      rw [bigSep_map, bigSep_univ_prod, bigSep_univ_prod]
      exact bigSep_congr fun c _ => by rw [bigSep_univ_prod]; rfl
    rw [e2]
    simp only [bigSep_four]
    rw [family_pair, family_pair, family_pair, family_pair, family_pair, family_pair, e1 1, e1 3]
    exact BI.equiv_iff.mp ⟨middle _ _ _ _, middle _ _ _ _⟩
  rw [bigSep_union toks_disj, hb, hd, ← bigSep_univ_prod (Φ := fun p : Dev nD × Fin 4 => (duties p.1 p.2 : sProp 𝕄))]
  exact (family_pair _ _).symm

/-- The barriers' counters, and the positions at them, one per device. -/
theorem deal_bar (Φ : GSem nD τ sig → sProp 𝕄) : bigSep barCells Φ = bigSep Finset.univ fun c : Dev nD => Φ (barCell c) := by
  rw [barCells_eq, bigSep_map]; rfl
theorem deal_dma (Φ : GSem nD τ sig → sProp 𝕄) :
    bigSep dmaCells Φ = bigSep Finset.univ fun c : Dev nD => bigSep Finset.univ fun p : Fin 4 × Fin 4 => Φ (dcell c p.2 p.1) := by
  rw [dmaCells_eq, bigSep_map, bigSep_univ_prod]; rfl

end Cert.Proof
-- ==== Proof.Segments.lean ====
/-
The kernel's run on all devices: from any memory with the counters at zero it ends, with each device's result the rows its body computes, the arguments unchanged and every counter at zero.
-/
module

public import proofs.«01_k».proof.Proof.Tokens
public import Idealize.ShloMosaic.Lib.Pipeline.ValueKit.Geometry

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The segments -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat m
  | ⟨_ + 1, h⟩ => absurd h (Nat.not_lt.2 (Nat.le_add_left _ _))

/-- The arrays of the program, and the one that no window stages. -/
def bufs : Finset (DevRef τ sig) := (StableHlo.tcRefs τ sig).filter fun b => ¬ b.isScoped
def rest : Finset (DevRef τ sig) := bufs \ Pipeline.arrRefs spec0

/-- The arrays at the launch, after the host's reshapes, and after the kernel. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v3) (out (ins m) c)
theorem V₂_of_ne (c : Dev nD) (b : DevRef τ sig) (h : b ≠ Proc.devRef .tc main_v3) : V₂ m c b = V₁ m c b := Function.update_of_ne h _ _
theorem V₂_out (c : Dev nD) : V₂ m c (Proc.devRef .tc main_v3) = out (ins m) c := Function.update_self _ _ _

theorem arr_sub : Pipeline.arrRefs (τ := τ) spec0 ⊆ bufs := by decide
theorem rest_ne : ∀ b ∈ rest \ ∅, b ≠ Proc.devRef .tc main_v3 := by decide
theorem bufs_eq (c : Dev nD) (W : Valuation τ sig (Elt F)) :
    (StableHlo.held (c : Thread nD τ) bufs W : sProp 𝕄)
      = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_v1) ↦{fullShare} W (Proc.devRef .tc main_v1)) ∗ (((c : Thread nD τ).loc main_v2) ↦{fullShare} W (Proc.devRef .tc main_v2))
        ∗ (((c : Thread nD τ).loc main_v3) ↦{fullShare} W (Proc.devRef .tc main_v3))) := by
  have h : (bufs : Finset (DevRef τ sig)) = [Proc.devRef .tc main_arg0, Proc.devRef .tc main_arg1, Proc.devRef .tc main_v1, Proc.devRef .tc main_v2, Proc.devRef .tc main_v3].toFinset := by
    decide
  unfold StableHlo.held
  rw [bigSep_eq_bigSepL_of_eq _ h (by decide)]; rfl

theorem kitP : Pipeline.PLaunchFacts (nD := nD) (τ := τ) (pcfgs (F := F)) 0 := launch0.toP

theorem share_eq (c : Dev nD) (w : Fin cfg0.W) : (dat m c).share w = fullShare := by
  unfold Dat.share; split <;> rfl

theorem arr_first (c : Dev nD) (w : Fin cfg0.W) : (dat m c).arrAt w 0 = V₁ m c (Proc.devRef .tc (Pipeline.arrRef spec0 w)) := rfl
theorem arr_last : ∀ (c : Dev nD) (w : Fin cfg0.W), (dat m c).arrAt w cfg0.N = V₂ m c (Proc.devRef .tc (Pipeline.arrRef spec0 w)) := by
  have hin (c : Dev nD) (w : Fin cfg0.W) (hw : (cfg0.win w).isOut = false) (h : Proc.devRef .tc (Pipeline.arrRef spec0 w) ≠ Proc.devRef (τ := τ) .tc main_v3) :
      (dat m c).arrAt w cfg0.N = V₂ m c (Proc.devRef .tc (Pipeline.arrRef spec0 w)) := by
    rw [V₂_of_ne m c _ h]; exact (dat m c).arrAt_in w hw _
  intro c w
  match w with
  | ⟨0, _⟩ => exact hin c 0 rfl (by decide)
  | ⟨1, _⟩ => exact hin c 1 rfl (by decide)
  | ⟨2, _⟩ => exact hin c 2 rfl (by decide)
  | ⟨3, _⟩ =>
    refine ((dat m c).arrAt_eq_of_after_last 3 t0_0 (by decide +kernel) (out (ins m) c) fun j => ?_).trans (V₂_out m c).symm
    blk_simp; rfl

theorem cut (c : Dev nD) (t : Fin (cfg0.N + 1)) (g : GSem nD τ sig) (i : Unit) (h : 0 < (dat m c).owed t g i) : i ∈ L g ∧ 0 < lv g i := by
  rw [owed_eq] at h
  split at h
  · obtain ⟨x, hx, rfl⟩ := owedL_pos h; exact debt_tc hx
  · exact absurd h (Nat.lt_irrefl 0)
theorem staging_kind : ∀ (w : Fin cfg0.W) (s : Fin (cfg0.win w).nbuf), kindOf ((cfg0.win w).sem s) = 0 := by decide
theorem staging_low (c : Dev nD) (w : Fin cfg0.W) (s : Fin (cfg0.win w).nbuf) : lv ((c : Thread nD τ), .dma ((cfg0.win w).sem s)) () ≤ 0 := by
  show (if kindOf _ = 2 ∨ kindOf _ = 4 then 2 else 0) ≤ 0
  rw [staging_kind w s, if_neg (by decide)]

/-- The barrier's counter, which stays with the device after the region. -/
def kept (c : Dev nD) : sProp 𝕄 := semVal (barCell c) 0

theorem open_region (c : Dev nD) : iprop(waiting m c ∗ Pipeline.ownSems0 osem c ∗ levAts L lv) ⊢ (|={Set.univ}=> entering m c : sProp 𝕄) := by
  unfold waiting ghost entering
  iintro ⟨⟨⟨%κ, #HI, Hat, Ho, Hd⟩, Hc⟩, Hs, #Hlev⟩
  imod (open_cells (ins m) κ c) $$ [Ho Hs] with H
  · isplitr; · iexact HI
    isplitl [Ho]; · iexact Ho
    iexact Hs
  imodintro
  isplitr [Hc]
  · iexists κ
    isplitr; · iexact HI
    isplitl [Hat]; · iexact Hat
    isplitl [H]; · iexact H
    iexact Hd
  isplitl [Hc]; · iexact Hc
  iexact Hlev

theorem held_none (c : Dev nD) (W : Valuation τ sig (Elt F)) : (StableHlo.held (c.tc : Thread nD τ) ∅ W : sProp 𝕄) = BI.emp := by
  unfold StableHlo.held; exact BI.bigSep_empty

theorem enter_region (c : Dev nD) :
    iprop(Pipeline.scopedRest spec0 c ∗ (∃ r, prngReg c r) ∗ StableHlo.held (c.tc : Thread nD τ) ∅ (V₁ m c) ∗ entering m c) ⊢ (dat m c).Φ 0 := by
  rw [inv_zero, before]
  iintro ⟨Hs, Hp, -, He⟩
  isplitl [He]; · iexact He
  isplitl [Hs]; · iapply (scratch_eq (F := F) c).1; iexact Hs
  iexact Hp
theorem leave_region (c : Dev nD) :
    (dat m c).Φ (Fin.last cfg0.N)
      ⊢ iprop(Pipeline.scopedRest spec0 c ∗ (∃ r, prngReg c r) ∗ StableHlo.held (c.tc : Thread nD τ) ∅ (V₂ m c) ∗ Pipeline.ownSems0 osem c ∗ kept c) := by
  rw [inv_last, left, held_none, kept]
  iintro ⟨⟨Hb, Ho⟩, Hs, Hp⟩
  isplitl [Hs]; · iapply (scratch_eq (F := F) c).2; iexact Hs
  isplitl [Hp]; · iexact Hp
  isplitr; · iempintro
  isplitl [Ho]; · iexact Ho
  iexact Hb

theorem own_sems : Pipeline.OwnSemFacts spec0 osem := by decide +kernel

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ rest (Finset.empty_subset _) kitP rfl (fun c => (body_obligation m c).loose)
    (fun _ => 0) O₀ (fun c => (owed_zero m c).trans (zero_add _).symm) (owed_last m) (fun _ => rfl) (share_eq m)
    (V₁ m) (V₂ m) (fun c b hb => V₂_of_ne m c b (rest_ne b hb))
    (waiting m) kept (entering m) kept (open_region m) (enter_region m) (leave_region m)
    (fun c => by iintro H; imodintro; iexact H)
    (fun _ => 0)
    ⟨fun c w s => by rw [L_tc]; exact Finset.mem_singleton_self _, staging_low, cut m⟩
    (fun _ => iprop(emp))
    (arr_first m) (arr_last m)

end Cert.Proof
-- ==== Proof.Launch.lean ====
/-
The kernel's run on all devices: from any memory with the counters at zero it ends, with each device's result the rows its
body computes, the arguments unchanged and every counter at zero.
-/
module

public import proofs.«01_k».proof.Proof.Segments

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-! ## The program as its two segments -/

/-- What a device holds beside its arrays before the region. -/
def beside (c : Dev nD) : sProp 𝕄 :=
  iprop(waiting m c ∗ (∃ r, prngReg c r) ∗ ∃ W, owes (c : Thread nD τ) (O₀ c) W)

theorem host_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_arg1, Proc.devRef .tc main_v1} : Finset (DevRef τ sig)) ⊆ bufs; decide
  · show ({Proc.devRef .tc main_arg1, Proc.devRef .tc main_v2} : Finset (DevRef τ sig)) ⊆ bufs; decide
theorem host_fresh : ∀ op ∈ (hostOps0 : List (HloOp τ sig (Elt F))), op.fresh = ∅ := List.forall_iff_forall_mem.mp hostOps0_fresh

def host : Pipeline.HostSeg (Name := ℕ) (U := UU) (pcfgs (F := F)) defs₀ 𝒱₀ L lv :=
  Pipeline.HostSeg.ofOps _ _ _ _ _ bufs hostOps0 host_sub host_fresh (V₀ m) (beside m)

def segs : List (Pipeline.Seg (pcfgs (F := F)) adm (pdats m) () defs₀ 𝒱₀ L lv) := [.host (host m), .region (reg m)]

theorem reg_pre (c : Dev nD) : iprop(StableHlo.held (c : Thread nD τ) bufs (V₁ m c) ∗ beside m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ waiting m c ∗ ∃ Wd, owes (c : Thread nD τ) (0 + O₀ c) Wd)
  rw [zero_add, StableHlo.held_sub_split (c : Thread nD τ) arr_sub]
  unfold beside
  iintro ⟨⟨Ha, Hr⟩, Hw, Hp, HO⟩
  isplitl [Ha]; · iexact Ha
  isplitl [Hp]; · iexact Hp
  isplitl [Hr]
  · isplitl [Hr]; · iexact Hr
    iempintro
  isplitl [Hw]; · iexact Hw
  iexact HO
theorem reg_post (c : Dev nD) : (reg m).post c
    ⊢ iprop((StableHlo.held (c : Thread nD τ) bufs (V₂ m c) ∗ kept c) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ kept c ∗ ∃ Wd, owes (c : Thread nD τ) (0 : CellTallies nD τ sig Unit) Wd) ⊢ _
  rw [StableHlo.held_sub_split (c : Thread nD τ) arr_sub (V₂ m c)]
  iintro ⟨Ha, -, ⟨Hr, -⟩, Hk, HO⟩
  isplitr [HO]
  · isplitr [Hk]
    · isplitl [Ha]; · iexact Ha
      iexact Hr
    iexact Hk
  iexact HO

/-! ## The launch -/

abbrev toks : Finset (GSem nD τ sig × ℕ × Fin 4) := barToks ∪ dmaToks
def u₀ : UU :=
  (initOf (Pipeline.cells (Pipeline.pin (pcfgs (F := F)) adm) cellOf_inj) (Pipeline.launchToks (Pipeline.pin (pcfgs (F := F)) adm) cellOf_inj),
    launchOf barCells dmaCells toks)
/-- The exchange's ghost state, all of it with the first device until the launch deals it. -/
def parked (c : Dev nD) : sProp 𝕄 := if c = 0 then BI.own (ER (launchOf barCells dmaCells toks)) else iprop(emp)
theorem parked_all : bigSep Finset.univ (parked (F := F)) = BI.own (ER (launchOf barCells dmaCells toks)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the exchange's ghost state, and what is. -/
def plain (c : Dev nD) : sProp 𝕄 :=
  iprop(StableHlo.held (c : Thread nD τ) bufs (V₀ m c) ∗ credit c ∗ owes (c : Thread nD τ) (O₀ c) ∅ ∗ ∃ r, prngReg c r)
def linear (c : Dev nD) : sProp 𝕄 :=
  iprop(atPos ER (barCell c) 0 ∅ 0 ∗ (bigSep Finset.univ fun p : Fin 4 × Fin 4 => openTok ER (dcell c p.2 p.1)) ∗ bigSep Finset.univ (duties c))
abbrev T₀ (c : Dev nD) : sProp 𝕄 := iprop(StableHlo.held (c : Thread nD τ) bufs (V₀ m c) ∗ beside m c)
abbrev Tₙ (c : Dev nD) : sProp 𝕄 := iprop(StableHlo.held (c : Thread nD τ) bufs (V₂ m c) ∗ kept c)

theorem launched (κ : GSem nD τ sig → ℕ) (c : Dev nD) : iprop(invs (ins m) κ ∗ (linear c ∗ plain m c)) ⊢ T₀ m c := by
  unfold linear plain T₀ beside waiting ghost
  iintro ⟨#HI, ⟨Hat, Ho, Hd⟩, Hh, Hc, HO, Hp⟩
  isplitl [Hh]; · iexact Hh
  isplitl [Hat Ho Hd Hc]
  · isplitr [Hc]
    · iexists κ
      isplitr; · iexact HI
      isplitl [Hat]; · iexact Hat
      isplitl [Ho]; · iexact Ho
      iexact Hd
    iexact Hc
  isplitl [Hp]; · iexact Hp
  iexists ∅; iexact HO

/-- What the launch gives a device. -/
def given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ parked c)
theorem sorted (c : Dev nD) : given m ρ c ⊢ iprop(plain m c ∗ (semVal (barCell c) 0 ∗ parked c)) := by
  unfold given plain
  rw [show unscopedBufs c (fun b => m ((c : Thread nD τ).loc b)) = StableHlo.held (c : Thread nD τ) bufs (V₀ m c) from unscopedBufs_held c (V₀ m c),
    unscopedSems_bar]
  iintro ⟨Hh, Hs, HO, Hcr, Hp, HG⟩
  isplitr [Hs HG]
  · isplitl [Hh]; · iexact Hh
    isplitl [Hcr]; · iapply (creds (F := F) c); iexact Hcr
    isplitl [HO]; · iexact HO
    iexists (ρ c); iexact Hp
  isplitl [Hs]; · iexact Hs
  iexact HG

theorem init : iprop((bigSep Finset.univ fun c : Dev nD => given m ρ c) ∗ levAts L lv) ⊢ (|={Set.univ}=> bigSep Finset.univ (T₀ m) : sProp 𝕄) := by
  iintro ⟨H, -⟩
  ihave H := (show (bigSep Finset.univ fun c : Dev nD => given m ρ c)
    ⊢ (bigSep Finset.univ fun c : Dev nD => iprop(plain m c ∗ (semVal (barCell c) 0 ∗ parked c)) : sProp 𝕄) from bigSep_mono fun c _ => sorted m ρ c) $$ H
  ihave H := (Entails.of_eq (family_pair _ _)) $$ H; icases H with ⟨HB, H⟩
  ihave H := (Entails.of_eq (family_pair _ _)) $$ H; icases H with ⟨Hv, HG⟩
  ihave Hv := (Entails.of_eq (deal_bar fun g => (semVal g 0 : sProp 𝕄)).symm) $$ Hv
  ihave Hu := (Entails.of_eq (parked_all (F := F))) $$ HG
  imod (Rounds.fund_launch ER (Rd (ins m)) cells_disj (fun g _ h => h) toks) $$ [Hv Hu] with ⟨%κ, -, #Hinv, #Hr, Hat, Hopen, Htok⟩
  · isplitl [Hv]; · iexact Hv
    iexact Hu
  imodintro
  iapply (bigSep_with_persistent (R := invs (ins m) κ) (Φ := fun c => iprop(linear c ∗ plain m c)) fun c _ => launched m κ c)
  isplitr
  · unfold invs
    isplitr; · iexact Hinv
    iexact Hr
  iapply (Entails.of_eq (family_pair _ _).symm)
  isplitr [HB]
  · unfold linear
    iapply (Entails.of_eq (family_pair _ _).symm); isplitl [Hat]; · iapply (Entails.of_eq (deal_bar fun g => (atPos ER g 0 ∅ 0 : sProp 𝕄))); iexact Hat
    iapply (Entails.of_eq (family_pair _ _).symm); isplitl [Hopen]; · iapply (Entails.of_eq (deal_dma fun g => (openTok ER g : sProp 𝕄))); iexact Hopen
    iapply (Entails.of_eq (deal_toks (F := F))); iexact Htok
  · iexact HB

theorem unscoped_eq : ∀ sm : SemLoc sig, sm.isScoped .tc = false → sm = .reg barS := by decide

set_option backward.isDefEq.respectTransparency.types false in
/-- The run of the kernel. -/
theorem run_main : θ_run defs (onTc (τ := τ) (main (F := F))) ⟨m, fun _ => 0, ρ⟩
    (fun r => (∀ c : Dev nD, r.2.mem ((c : Thread nD τ).loc main_v3) = out (ins m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; exact BI.Entails.refl _)
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v3) = V₂ m c (Proc.devRef .tc main_v3)
        ∧ s.mem ((c : Thread nD τ).loc main_arg0) = V₂ m c (Proc.devRef .tc main_arg0)
        ∧ s.mem ((c : Thread nD τ).loc main_arg1) = V₂ m c (Proc.devRef .tc main_arg1)) ∧ s.sem (barCell c) = 0)
    (hfin := fun c s' => by
      dsimp only [Tₙ]; rw [bufs_eq, kept]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h3, Buf.eq_of_forall_mem_univ h0, Buf.eq_of_forall_mem_univ h1⟩, by simpa using hb⟩
      iexact HSI)
    (hQ := fun s h hs => ⟨fun c => by
        obtain ⟨⟨h3, h0, h1⟩, -⟩ := h c
        exact ⟨h3.trans (V₂_out m c), h0.trans ((V₂_of_ne m c _ (by decide)).trans (V_main_arg0 m c)),
          h1.trans ((V₂_of_ne m c _ (by decide)).trans (V_main_arg1 m c))⟩,
      sem_eq_zero hs fun c sm hsm => by
        obtain rfl := unscoped_eq sm hsm
        exact (h c).2⟩)

end Cert.Proof
-- ==== Proof.Frames.lean ====
/-
The frames: each program runs to the end, leaves its arguments as they were, and every counter at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (run_main (F := Ideal) m ρ)

/-- The two printed programs name one body, so their tables of bodies are one. -/
theorem bodies_eq {F : FTy → Type} [FloatOps F] : Cert.Kernel.defs (F := F) = Cert.KernelIdeal.defs (F := F) := by
  have h : Cert.Kernel.defs₀ (F := F) = Cert.KernelIdeal.defs₀ (F := F) := by
    unfold Cert.Kernel.defs₀ Cert.KernelIdeal.defs₀
    congr 1
    funext l _
    match l with
    | 0 => rfl
  unfold Cert.Kernel.defs Cert.KernelIdeal.defs
  rw [h]
  rfl

/-- The kernel and its idealization are one text, so the run is the same one, read at bits. -/
theorem frame_kernel : Cert.quiescent_Kernel := fun m ρ _ => by
  rw [bodies_eq]
  exact (θ_run (Cert.KernelIdeal.defs (F := Bits)) _ _).mono (fun _ h => ⟨fun c => (h.1 c).2, h.2⟩) (run_main (F := Bits) m ρ)

/-- The reference has no semaphores, so its run says all that its frame asks. -/
theorem frame_reference : Cert.quiescent_ReferenceIdeal := fun m ρ _ =>
  (θ_run (Cert.ReferenceIdeal.defs (F := Ideal)) _ _).mono
    (fun _ h => ⟨fun c => (h c).2, funext fun g => match g with | (_, .reg s) => s.elim0 | (_, .dma s) => s.elim0⟩)
    (Cert.ReferenceIdeal.Value.run (F := Ideal) m ρ)

end Cert.Proof
-- ==== Proof.Ranks.lean ====
/-
Counting rows by their destination: how many of the first rows go to a rank, and where the stable sort by destination puts
each row.
-/
module

public import Idealize.ShloMosaic.PureOps.Ideal
public import Idealize.ShloMosaic.Lib.SortFacts
public import Idealize.ShloMosaic.Lib.Routing.Count

@[expose] public section

namespace Cert.Proof

open Idealize.ShloMosaic

/-- How many of the first `n` rows go to rank `r`. -/
abbrev sent (d : ℕ → ℕ) (r n : ℕ) : ℕ := Nat.count (fun k => d k = r) n

/-- The destinations of the rows of block `s`. -/
abbrev part (d : ℕ → ℕ) (s : ℕ) : ℕ → ℕ := fun k => d (1024 * s + k)

/-- What the problem asks of the destinations. -/
structure Routed (d : ℕ → ℕ) : Prop where
  lt : ∀ k < 4096, d k < 4
  total : ∀ r < 4, sent d r 4096 = 1024
  fits : ∀ s < 4, ∀ r < 4, sent (part d s) r 1024 ≤ 288

variable (d : ℕ → ℕ)

theorem sent_part (r s i : ℕ) : sent d r (1024 * s + i) = sent d r (1024 * s) + sent (part d s) r i :=
  Nat.count_add ..

theorem sent_next (r s : ℕ) : sent d r (1024 * (s + 1)) = sent d r (1024 * s) + sent (part d s) r 1024 :=
  sent_part d r s 1024

theorem sent_lt {r i n : ℕ} (hi : d i = r) (hn : i < n) : sent d r i < sent d r n :=
  Nat.count_strict_mono hi hn

theorem sent_inj {r i j : ℕ} (hi : d i = r) (hj : d j = r) (h : sent d r i = sent d r j) : i = j :=
  Nat.count_injective hi hj h

/-- Of two conditions that exclude each other, the count of either is the sum of the counts. -/
theorem count_either (p q : ℕ → Prop) [DecidablePred p] [DecidablePred q] (n : ℕ) (h : ∀ k < n, ¬(p k ∧ q k)) :
    Nat.count (fun k => p k ∨ q k) n = Nat.count p n + Nat.count q n := by
  induction n with
  | zero => rfl
  | succ n ih =>
    have hn := h n (Nat.lt_succ_self n)
    rw [Nat.count_succ, Nat.count_succ, Nat.count_succ, ih fun k hk => h k (by omega)]
    by_cases hp : p n <;> by_cases hq : q n <;> simp_all <;> omega

/-- A count of what lies below a bound stops at the bound. -/
theorem count_below (p : ℕ → Prop) [DecidablePred p] (b n : ℕ) (h : b ≤ n) :
    Nat.count (fun k => p k ∧ k < b) n = Nat.count p b := by
  obtain ⟨e, rfl⟩ := Nat.exists_eq_add_of_le h
  rw [Nat.count_add, Routing.count_congr_of_lt b (Q := p) fun k hk => by simp [hk],
    Routing.count_congr_of_lt e (Q := fun _ => False) fun k _ => by simp]
  simp

/-- The ranks below `z` get `1024` rows each. -/
theorem sent_lower {d : ℕ → ℕ} (h : Routed d) (z : ℕ) (hz : z ≤ 4) : Nat.count (fun k => d k < z) 4096 = 1024 * z := by
  induction z with
  | zero => simp
  | succ z ih =>
    have e := count_either (fun k => d k < z) (fun k => d k = z) 4096 fun k _ => by omega
    rw [Routing.count_congr_of_lt 4096 (Q := fun k => d k < z ∨ d k = z) fun k _ => by omega, e, ih (by omega)]
    have := h.total z (by omega)
    unfold sent at this
    omega

/-- The order of the sort: by destination, and by number among equals. -/
def sortKey (d : ℕ → ℕ) (k : Fin 4096) : ℕ := 4096 * d k + k

theorem sortKey_lt_iff (a b : Fin 4096) : sortKey d a < sortKey d b ↔ d a < d b ∨ (d a = d b ∧ a.val < b.val) := by
  unfold sortKey
  have := a.isLt
  have := b.isLt
  omega

theorem sortKey_inj : Function.Injective (sortKey d) := fun a b h => by
  unfold sortKey at h
  have := a.isLt
  have := b.isLt
  exact Fin.ext (by omega)

/-- Along an ascending list, an insertion sort that keeps equals in place sorts by destination and number. -/
theorem stableSort_ascending {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

theorem sortedFrom_of_positions {n : ℕ} {R R' : Fin n → Fin n → Bool} (e : sortPositions n R = sortPositions n R') :
    sortedFrom R = sortedFrom R' := by
  funext p
  unfold sortedFrom
  rw [List.get_of_eq e]
  rfl

/-- The sort of the positions by destination. -/
abbrev sortedRow (d : ℕ → ℕ) (p : Fin 4096) : Fin 4096 := sortedFrom (fun a b => decide (d a < d b)) p

theorem sorted_eq (p : Fin 4096) : sortedRow d p = sortedFrom (fun a b => decide (sortKey d a < sortKey d b)) p := by
  have e : sortPositions 4096 (fun a b => decide (d a < d b)) = sortPositions 4096 fun a b => decide (sortKey d a < sortKey d b) := by
    refine stableSort_ascending _ _ _ ((List.pairwise_lt_finRange 4096).imp fun {a b} hab => ?_)
    have : a.val < b.val := hab
    rw [decide_eq_decide, sortKey_lt_iff]
    omega
  exact congrFun (sortedFrom_of_positions e) p

/-- A sort by a key without repeats puts the keys in ascending order. -/
theorem sortedFrom_mono {n : ℕ} (K : Fin n → ℕ) (hK : Function.Injective K) {p q : Fin n} (h : p < q) :
    K (sortedFrom (fun a b => decide (K a < K b)) p) < K (sortedFrom (fun a b => decide (K a < K b)) q) := by
  have hn := sortedFrom_noInversion (fun a b => decide (K a < K b)) (fun a b => decide (K a < K b))
    (fun a b h => by simp only [decide_eq_true_eq, decide_eq_false_iff_not] at h ⊢; omega) (fun _ _ h => h)
    (fun a b c h h' => by simp only [decide_eq_false_iff_not] at h h' ⊢; omega) p q h
  have hne := fun e => h.ne (sortedFrom_injective (fun a b => decide (K a < K b)) (hK e))
  rw [decide_eq_false_iff_not] at hn
  exact lt_of_le_of_ne (not_lt.1 hn) hne

theorem sorted_mono {p q : Fin 4096} (h : p < q) : sortKey d (sortedRow d p) < sortKey d (sortedRow d q) := by
  rw [sorted_eq, sorted_eq]
  exact sortedFrom_mono (sortKey d) (sortKey_inj d) h

/-- As many rows come before the row at position `p` as `p` says. -/
theorem before_sorted (p : Fin 4096) :
    Nat.count (fun k => d k < d (sortedRow d p) ∨ (d k = d (sortedRow d p) ∧ k < (sortedRow d p).val)) 4096 = p.val := by
  rw [← Routing.card_filter_fin]
  have hbij : Function.Bijective (sortedRow d) := ⟨sortedFrom_injective _, sortedFrom_surjective _⟩
  have hlt : ∀ q : Fin 4096, q < p ↔ sortKey d (sortedRow d q) < sortKey d (sortedRow d p) := fun q =>
    ⟨sorted_mono d, fun h => by
      rcases lt_trichotomy q p with hq | hq | hq
      · exact hq
      · subst hq; omega
      · have := sorted_mono d hq; omega⟩
  have hc : (Finset.univ.filter fun k : Fin 4096 => d k < d (sortedRow d p) ∨ (d k = d (sortedRow d p) ∧ k.val < (sortedRow d p).val)).card
      = (Finset.univ.filter fun q : Fin 4096 => q < p).card := by
    symm
    refine Finset.card_bijective (sortedRow d) hbij fun q => ?_
    simp only [Finset.mem_filter, Finset.mem_univ, true_and]
    rw [hlt, sortKey_lt_iff]
  have hp : (Finset.univ.filter fun q : Fin 4096 => q < p).card = Nat.count (fun k => True ∧ k < p.val) 4096 := by
    rw [← Routing.card_filter_fin]
    simp only [true_and]
    rfl
  rw [hc, hp, count_below (fun _ => True) _ _ p.isLt.le, Nat.count_true]

/-- The row at position `p` goes to rank `p / 1024`, and `p % 1024` rows before it do. -/
theorem sorted_place {d : ℕ → ℕ} (h : Routed d) (p : Fin 4096) :
    d (sortedRow d p) = p.val / 1024 ∧ sent d (p.val / 1024) (sortedRow d p) = p.val % 1024 := by
  have hg := (sortedRow d p).isLt
  have hd := h.lt _ hg
  have e := before_sorted d p
  rw [count_either _ _ _ fun k _ => by omega, sent_lower h _ (by omega), count_below _ _ _ (by omega)] at e
  change 1024 * d (sortedRow d p) + sent d (d (sortedRow d p)) (sortedRow d p) = p.val at e
  have hs : sent d (d (sortedRow d p)) (sortedRow d p) < 1024 := by
    rw [← h.total _ hd]
    exact sent_lt d rfl hg
  have hz : d (sortedRow d p) = p.val / 1024 := by omega
  exact ⟨hz, by rw [← hz]; omega⟩

end Cert.Proof
-- ==== Proof.Marks.lean ====
/-
Marks: a condition as a number, and what sums of marked rows are. Then what the body counts: for each device and each rank,
how many of the device's rows go there, and for each row its key.
-/
module

public import proofs.«01_k».proof.Proof.Launch
public import proofs.«01_k».proof.Proof.Ranks
public import Idealize.ShloMosaic.Lib.Pointwise
public import Idealize.ShloMosaic.Lib.WordCmp
public import Idealize.ShloMosaic.Lib.IndicatorCount
public import Idealize.ShloMosaic.Lib.Tactic.WordOmega

@[expose] public section

noncomputable section

namespace Cert.Proof

open Idealize.ShloMosaic Idealize.ShloMosaic.TcCoe
open WordCmp
open Cert.KernelIdeal Cert.KernelIdeal.Gen

/-! ## Marks -/

/-- A condition turned into a number is one where it holds and zero elsewhere. -/
theorem mark_eq (b : BitVec 1) : (FloatOps.sitofp .f32 (BitVec.setWidth 32 b) : Ideal .f32) = (if b = 1#1 then 1 else 0 : EReal) := by
  have h : b = 0#1 ∨ b = 1#1 := by revert b; decide
  rcases h with rfl | rfl
  · show (((0 : ℤ) : ℝ) : EReal) = 0
    norm_num
  · show (((1 : ℤ) : ℝ) : EReal) = 1
    norm_num

/-- A sum of marks times values is the sum of the marked values. -/
theorem mark_sum {n : ℕ} (p : Fin n → BitVec 1) (y : Fin n → EReal) :
    ∑ x, (FloatOps.sitofp .f32 (BitVec.setWidth 32 (p x)) : Ideal .f32) * y x = ∑ x, if p x = 1#1 then y x else 0 :=
  Finset.sum_congr rfl fun x _ => by
    rw [mark_eq]
    split
    · exact one_mul _
    · exact zero_mul _

/-- A product that marks one row gives that row. -/
theorem mark_one {n : ℕ} (p : Fin n → BitVec 1) (y : Fin n → EReal) (i : Fin n) (h : ∀ x, p x = 1#1 ↔ x = i) :
    ∑ x, (FloatOps.sitofp .f32 (BitVec.setWidth 32 (p x)) : Ideal .f32) * y x = y i := by
  simp only [mark_sum, h]
  simp

/-- A product that marks no row gives zero. -/
theorem mark_none {n : ℕ} (p : Fin n → BitVec 1) (y : Fin n → EReal) (h : ∀ x, ¬p x = 1#1) :
    ∑ x, (FloatOps.sitofp .f32 (BitVec.setWidth 32 (p x)) : Ideal .f32) * y x = 0 := by
  simp only [mark_sum, h]
  simp

/-- A sum of products of two marks is how often both conditions hold. -/
theorem mark_count {n : ℕ} (p q : Fin n → BitVec 1) (Q : ℕ → Prop) [DecidablePred Q] (h : ∀ x, (p x = 1#1 ∧ q x = 1#1) ↔ Q x.val) :
    ∑ x, (FloatOps.sitofp .f32 (BitVec.setWidth 32 (p x)) : Ideal .f32) * (FloatOps.sitofp .f32 (BitVec.setWidth 32 (q x)) : Ideal .f32)
      = ((Nat.count Q n : ℕ) : EReal) := by
  rw [mark_sum, ← Routing.card_filter_fin]
  rw [← nsmul_one, ← Finset.sum_const, Finset.sum_filter]
  refine Finset.sum_congr rfl fun x _ => ?_
  rw [mark_eq, ← ite_and]
  simp only [h]

/-- The word of a number is the number's word. -/
theorem word_of_nat (n : ℕ) (h : n < 2 ^ 31) : FloatOps.fptosi (F := Ideal) (φ := .f32) 32 ((n : ℕ) : EReal) = BitVec.ofNat 32 n := by
  show BitVec.ofInt 32 (Ideal.toIntClamped (-(2 ^ 31)) (2 ^ 31 - 1) (((n : ℕ) : ℝ) : EReal)) = _
  rw [Ideal.toIntClamped_coe, if_pos (Nat.cast_nonneg n)]
  have : ⌊((n : ℕ) : ℝ)⌋ = (n : ℤ) := Int.floor_natCast n
  rw [this, min_eq_right (by omega), max_eq_right (by omega)]
  rfl

/-- A choice by whether two words are the same. -/
theorem select_same {α : Type} {a b : ℕ} (ha : a < 2 ^ 32) (hb : b < 2 ^ 32) (x y : α) :
    Scalar.select (IntOp.cmpi .eq (BitVec.ofNat 32 a) (BitVec.ofNat 32 b)) x y = if a = b then x else y :=
  if_congr (cmpi_eq_ofNat_eq_one_iff ha hb) rfl rfl

/-- A sum in which one place is chosen is what lies there. -/
theorem fold_pick {ι : Type} [Fintype ι] [DecidableEq ι] (p : ι → BitVec 1) (y : ι → BitVec 32) (i : ι) (h : ∀ x, p x = 1#1 ↔ x = i) :
    Finset.univ.fold IntOp.addi 0#32 (fun x => Scalar.select (p x) (y x) 0#32) = y i := by
  have e : ∀ x, Scalar.select (p x) (y x) 0#32 = if x = i then y x else 0#32 := fun x =>
    if_congr (h x) rfl rfl
  have g : ∀ S : Finset ι, S.fold IntOp.addi 0#32 (fun x => if x = i then y x else 0#32) = if i ∈ S then y i else 0#32 := fun S => by
    induction S using Finset.induction_on with
    | empty => rfl
    | insert a S ha ih =>
      rw [Finset.fold_insert ha, ih]
      show (_ : BitVec 32) + _ = _
      rcases eq_or_ne a i with rfl | n
      · simp [ha]
      · simp [n, n.symm]
  simp only [e, g, Finset.mem_univ, if_true]

/-! ## What the body counts -/

/-- The rows' destinations as the body is given them: along a row and along a column. -/
structure Dests (I : Ins Ideal) (e : Dev nD → ℕ → ℕ) : Prop where
  row : ∀ c (i : Fin 1024), I.row c (ix2 0 i) = BitVec.ofNat 32 (e c i)
  col : ∀ c (i : Fin 1024), I.col c (ix2 i 0) = BitVec.ofNat 32 (e c i)
  lt : ∀ c, ∀ i < 1024, e c i < 4

variable {I : Ins Ideal} {e : Dev nD → ℕ → ℕ} (h : Dests I e) (c : Dev nD)
include h

theorem cnt3_at (l : Fin 128) : cnt3 I c (ix3 0 0 l) = BitVec.ofNat 32 (sent (e c) l 1024) := by
  unfold cnt3
  pointwise [k0_pay3, k0_pay1]
  rw [IndicatorCount.fold_addi_setWidth_eq_card]
  unfold sent
  rw [← Routing.card_filter_fin]
  congr 2
  refine Finset.filter_congr fun x _ => ?_
  have := h.lt c x x.isLt
  rw [h.col, cmpi_eq_ofNat_eq_one_iff (by omega) (by omega)]

/-- How many rows device `c` gets from the device at place `s` of its group. -/
theorem tot_at (s : Fin 4) : tot I c s = BitVec.ofNat 32 (sent (e (mate c s)) (place c) 1024) := by
  unfold tot
  pointwise [k0_pay17, k0_pay16]
  have hp := (place c).isLt
  rw [fold_pick _ _ (0, ⟨(place c).val, by omega⟩) fun x => ?_]
  · exact cnt3_at h (mate c s) ⟨(place c).val, by omega⟩
  · have := x.2.isLt
    rw [cmpi_eq_ofNat_eq_one_iff (by omega) (by omega), Prod.ext_iff, Fin.ext_iff, Fin.ext_iff]
    exact ⟨fun q => ⟨by have := x.1.isLt; show x.1.val = 0; omega, q⟩, fun q => q.2⟩

theorem key_at (i : Fin 1024) : key I c (ix2 0 i) = BitVec.ofNat 32 (288 * e c i + sent (e c) (e c i) i) := by
  unfold key
  pointwise [k0_pay7, k0_pay9, k0_pay10]
  have hi := i.isLt
  have he := h.lt c i hi
  have S : ∀ r < 4, ∑ x : Fin 1024, (FloatOps.sitofp .f32 (BitVec.setWidth 32 (IntOp.cmpi .eq (BitVec.ofNat 32 r) (I.row c (ix2 0 x)))) : Ideal .f32)
      * (FloatOps.sitofp .f32 (BitVec.setWidth 32 (IntOp.cmpi .slt (BitVec.ofNat 32 x.val) (BitVec.ofNat 32 i.val))) : Ideal .f32)
      = ((sent (e c) r i : ℕ) : EReal) := fun r hr => by
    rw [mark_count _ _ (fun k => e c k = r ∧ k < i.val) fun x => ?_, count_below _ _ _ hi.le]
    have hx := x.isLt
    have := h.lt c x hx
    rw [h.row, cmpi_eq_ofNat_eq_one_iff (by omega) (by omega), cmpi_slt_ofNat_eq_one_iff (by omega) (by omega)]
    omega
  rw [S 0 (by omega), S 1 (by omega), S 2 (by omega), S 3 (by omega), h.row, select_same (by omega) (by omega), select_same (by omega) (by omega),
    select_same (by omega) (by omega), select_same (by omega) (by omega)]
  have hs : (if e c i = 0 then ((sent (e c) 0 i : ℕ) : EReal) else 0) + (if e c i = 1 then ((sent (e c) 1 i : ℕ) : EReal) else 0)
      + (if e c i = 2 then ((sent (e c) 2 i : ℕ) : EReal) else 0) + (if e c i = 3 then ((sent (e c) 3 i : ℕ) : EReal) else 0)
      = ((sent (e c) (e c i) i : ℕ) : EReal) := by
    have : e c i = 0 ∨ e c i = 1 ∨ e c i = 2 ∨ e c i = 3 := by omega
    rcases this with q | q | q | q <;> rw [q] <;> simp
  have hb : sent (e c) (e c i) i ≤ i := Nat.count_le _
  rw [hs, word_of_nat _ (by omega)]
  show BitVec.ofNat 32 (e c i) * BitVec.ofNat 32 288 + _ = _
  rw [BitVec.ofNat_add, BitVec.ofNat_mul, BitVec.mul_comm]

end Cert.Proof
-- ==== Proof.Values.lean ====
/-
What the blocks and the result hold. Row `r` of the block for place `s` is the row whose rank among those for `s` is `r`.
Row `j` of the result is the `j`-th of the group's rows for this place, in the order of the places and then of the rows.
-/
module

public import proofs.«01_k».proof.Proof.Marks

@[expose] public section

noncomputable section

namespace Cert.Proof

open Idealize.ShloMosaic Idealize.ShloMosaic.TcCoe
open WordCmp
open Cert.KernelIdeal Cert.KernelIdeal.Gen

/-! ## Words -/

/-- A position within block `m` of 288 rows, compared with a number. -/
theorem in_block {a b m : ℕ} (ha : a < 288) (hb : b < 2 ^ 20) (hm : m < 4) :
    IntOp.cmpi .eq (BitVec.ofNat 32 a) (IntOp.subi (BitVec.ofNat 32 b) (Scalar.muli (BitVec.ofNat 32 m) 288#32)) = 1#1 ↔ a + 288 * m = b := by
  rw [cmpi_eq_eq, ofBool_decide_eq_one_iff]
  show BitVec.ofNat 32 a = BitVec.ofNat 32 b - BitVec.ofNat 32 m * BitVec.ofNat 32 288 ↔ _
  rw [BitVec.eq_sub_iff_add_eq, ← BitVec.ofNat_mul, ← BitVec.ofNat_add, ← BitVec.toNat_inj, BitVec.toNat_ofNat, BitVec.toNat_ofNat,
    Nat.mod_eq_of_lt (by omega), Nat.mod_eq_of_lt (by omega), Nat.mul_comm]

/-- One of the four terms of a position: its own where the row lies in the stretch from `a` to `b`, zero elsewhere. -/
theorem stretch (m : BitVec 32) {a b j : ℕ} (ha : a < 2 ^ 20) (hb : b < 2 ^ 20) (hj : j < 2 ^ 20) :
    Scalar.select (IntOp.andi (IntOp.cmpi .sge (BitVec.ofNat 32 j) (BitVec.ofNat 32 a)) (IntOp.cmpi .slt (BitVec.ofNat 32 j) (BitVec.ofNat 32 b)))
      (IntOp.subi (IntOp.addi m (BitVec.ofNat 32 j)) (BitVec.ofNat 32 a)) 0#32
      = if a ≤ j ∧ j < b then m + BitVec.ofNat 32 (j - a) else 0#32 := by
  have hc : IntOp.andi (IntOp.cmpi .sge (BitVec.ofNat 32 j) (BitVec.ofNat 32 a)) (IntOp.cmpi .slt (BitVec.ofNat 32 j) (BitVec.ofNat 32 b)) = 1#1
      ↔ a ≤ j ∧ j < b := by word_omega
  refine (if_congr hc rfl rfl).trans ?_
  by_cases h : a ≤ j ∧ j < b
  · rw [if_pos h, if_pos h]
    have e : BitVec.ofNat 32 j = BitVec.ofNat 32 (j - a) + BitVec.ofNat 32 a := by rw [← BitVec.ofNat_add]; congr 1; omega
    show m + BitVec.ofNat 32 j - BitVec.ofNat 32 a = _
    rw [e, ← BitVec.add_assoc, BitVec.add_sub_cancel]
  · rw [if_neg h, if_neg h]

/-! ## The blocks -/

variable {I : Ins Ideal} {e : Dev nD → ℕ → ℕ} (h : Dests I e) (c : Dev nD)

include h in
/-- A row lies in the block for its destination, at its rank. -/
theorem blk_at (hf : ∀ r < 4, sent (e c) r 1024 ≤ 288) (s : Fin 4) (i : Fin 1024) (hs : e c i = s.val) (r : Fin 288) (hr : sent (e c) s i = r.val)
    (k : Fin 512) : blk I c s (ix2 r k) = I.x c (ix2 i k) := by
  unfold blk
  pointwise [k0_pay15, k0_pay8]
  refine mark_one _ (fun x => I.x c (ix2 x k)) i fun x => ?_
  have hx := h.lt c x x.isLt
  have hk : sent (e c) (e c x) x < sent (e c) (e c x) 1024 := sent_lt _ rfl x.isLt
  have hb := hf _ hx
  have hsl := s.isLt
  have hrl := r.isLt
  rw [key_at h, in_block r.isLt (by omega) s.isLt]
  constructor
  · intro q
    have hxs : e c x = s.val := by omega
    exact Fin.ext (sent_inj (e c) hxs hs (by rw [hxs] at q; omega))
  · rintro rfl
    rw [hs, hr]
    omega

/-! ## The result -/

/-- Where row `j` of the result lies in the receive buffer, if the rows from place `s` begin at `T s`. -/
theorem pos_at (T : ℕ → ℕ) (h0 : T 0 = 0) (hm : ∀ s < 4, T s ≤ T (s + 1)) (hb : T 4 < 2 ^ 20) (ht : ∀ s : Fin 4, tot I c s = BitVec.ofNat 32 (T (s.val + 1) - T s.val))
    (s : Fin 4) (j : Fin 1024) (hj : T s.val ≤ j.val ∧ j.val < T (s.val + 1)) :
    pos I c (ix2 j 0) = BitVec.ofNat 32 (288 * s.val + (j.val - T s.val)) := by
  have m0 := hm 0 (by omega)
  have m1 := hm 1 (by omega)
  have m2 := hm 2 (by omega)
  have m3 := hm 3 (by omega)
  simp only [Nat.zero_add, Nat.reduceAdd] at m0 m1 m2 m3
  have step : ∀ s < 4, Scalar.addi (BitVec.ofNat 32 (T s)) (BitVec.ofNat 32 (T (s + 1) - T s)) = BitVec.ofNat 32 (T (s + 1)) := fun s hs => by
    have := hm s hs
    show _ + _ = _
    rw [← BitVec.ofNat_add]
    congr 1
    omega
  have s0 : Scalar.addi 0#32 (tot I c 0) = BitVec.ofNat 32 (T 1) := by
    have := step 0 (by omega)
    rw [h0] at this
    rw [ht 0]
    show Scalar.addi 0#32 (BitVec.ofNat 32 (T 1 - T 0)) = _
    rw [h0]
    exact this
  have s1 : Scalar.addi (BitVec.ofNat 32 (T 1)) (tot I c 1) = BitVec.ofNat 32 (T 2) := by rw [ht 1]; exact step 1 (by omega)
  have s2 : Scalar.addi (BitVec.ofNat 32 (T 2)) (tot I c 2) = BitVec.ofNat 32 (T 3) := by rw [ht 2]; exact step 2 (by omega)
  have s3 : Scalar.addi (BitVec.ofNat 32 (T 3)) (tot I c 3) = BitVec.ofNat 32 (T 4) := by rw [ht 3]; exact step 3 (by omega)
  unfold pos
  pointwise [k0_pay24, k0_pay21, k0_pay22, k0_pay23]
  have hjl := j.isLt
  rw [s0, s1, s2, s3, stretch 0#32 (by omega) (by omega) (by omega), stretch 288#32 (by omega) (by omega) (by omega),
    stretch 576#32 (by omega) (by omega) (by omega), stretch 864#32 (by omega) (by omega) (by omega)]
  have hsl : s.val = 0 ∨ s.val = 1 ∨ s.val = 2 ∨ s.val = 3 := by omega
  have e0 : ∀ a b : BitVec 32, IntOp.addi a b = a + b := fun _ _ => rfl
  simp only [e0]
  rcases hsl with q | q | q | q <;> rw [q] at hj ⊢ <;> simp only [Nat.zero_add, Nat.reduceAdd] at hj
  · rw [if_pos ⟨by omega, hj.2⟩, if_neg (by omega), if_neg (by omega), if_neg (by omega), h0]; word_omega
  · rw [if_neg (by omega), if_pos hj, if_neg (by omega), if_neg (by omega)]; word_omega
  · rw [if_neg (by omega), if_neg (by omega), if_pos hj, if_neg (by omega)]; word_omega
  · rw [if_neg (by omega), if_neg (by omega), if_neg (by omega), if_pos hj]; word_omega

/-- The product of one step: the row if it came from that place, zero otherwise. -/
theorem unpack_at (acc : FVec Ideal S1024x512 .f32) (s t : Fin 4) (j : Fin 1024) (k : Fin 512) (r : Fin 288)
    (hp : pos I c (ix2 j 0) = BitVec.ofNat 32 (288 * s.val + r.val)) :
    unpack I c acc t (ix2 j k) = acc (ix2 j k) + if t = s then blk I (mate c s) (place c) (ix2 r k) else 0 := by
  unfold unpack cols
  pointwise [k0_pay28]
  have hs := s.isLt
  have htl := t.isLt
  have hr := r.isLt
  have hx : ∀ x : Fin 288, IntOp.cmpi .eq (BitVec.ofNat 32 x.val) (IntOp.subi (pos I c (ix2 j 0)) (Scalar.muli (pw t) 288#32)) = 1#1
      ↔ x.val + 288 * t.val = 288 * s.val + r.val := fun x => by rw [hp, in_block x.isLt (by omega) htl]
  congr 1
  split
  · rename_i q
    subst q
    exact mark_one _ (fun x => blk I (mate c t) (place c) (ix2 x k)) r fun x => (hx x).trans (by rw [Fin.ext_iff]; omega)
  · rename_i q
    have q' := fun q' => q (Fin.ext q')
    exact mark_none _ (fun x => blk I (mate c t) (place c) (ix2 x k)) fun x q => q' (by have := (hx x).1 q; have := x.isLt; omega)

/-- The own place and the three others are the four places, each once. -/
theorem one_of (s : Fin 4) (v : EReal) :
    ((((0 : EReal) + if place c = s then v else 0) + if other c 0 = s then v else 0) + if other c 1 = s then v else 0)
      + (if other c 2 = s then v else 0) = v := by
  have hs := s.isLt
  simp only [Fin.ext_iff, place, other, Fin.val_zero, Fin.val_one, Fin.val_two]
  have : c.val % 4 = s.val ∨ (c.val % 4 + 0 + 1) % 4 = s.val ∨ (c.val % 4 + 1 + 1) % 4 = s.val ∨ (c.val % 4 + 2 + 1) % 4 = s.val := by omega
  rcases this with q | q | q | q
  · rw [if_pos q, if_neg (by omega), if_neg (by omega), if_neg (by omega)]; simp
  · rw [if_neg (by omega), if_pos q, if_neg (by omega), if_neg (by omega)]; simp
  · rw [if_neg (by omega), if_neg (by omega), if_pos q, if_neg (by omega)]; simp
  · rw [if_neg (by omega), if_neg (by omega), if_neg (by omega), if_pos q]; simp

theorem out_of_pos (s : Fin 4) (j : Fin 1024) (k : Fin 512) (r : Fin 288) (hp : pos I c (ix2 j 0) = BitVec.ofNat 32 (288 * s.val + r.val)) :
    out I c (ix2 j k) = blk I (mate c s) (place c) (ix2 r k) := by
  have hz : (k0_pay25 : FVec Ideal S1024x512 .f32) (ix2 j k) = 0 := by pointwise [k0_pay25]
  unfold out
  rw [unpack_at c _ s _ j k r hp, unpack_at c _ s _ j k r hp, unpack_at c _ s _ j k r hp, unpack_at c _ s _ j k r hp, hz]
  exact one_of c s _

include h in
/-- Row `j` of a device's result is the row of the group for this place before which `j` others are. -/
theorem out_at {d : ℕ → ℕ} (hd : Routed d) (he : ∀ s, e (mate c s) = part d s.val) (g : Fin 4096) (hg : d g = (place c).val) (j : Fin 1024)
    (hj : sent d (place c) g = j.val) (k : Fin 512) :
    out I c (ix2 j k) = I.x (mate c ⟨g.val / 1024, by have := g.isLt; omega⟩) (ix2 ⟨g.val % 1024, Nat.mod_lt _ (by decide)⟩ k) := by
  have hgl := g.isLt
  set s : Fin 4 := ⟨g.val / 1024, by omega⟩ with hs
  set i : Fin 1024 := ⟨g.val % 1024, Nat.mod_lt _ (by decide)⟩ with hi
  have hgi : g.val = 1024 * s.val + i.val := by show g.val = 1024 * (g.val / 1024) + g.val % 1024; omega
  have hpl := (place c).isLt
  have hpart : part d s.val i = (place c).val := by show d (1024 * s.val + i.val) = _; rw [← hgi, hg]
  have hrank : sent (part d s.val) (place c) i < sent (part d s.val) (place c) 1024 := sent_lt _ hpart i.isLt
  have hfit := hd.fits s.val s.isLt (place c).val hpl
  have hsum : sent d (place c) (1024 * s.val) + sent (part d s.val) (place c) i = j.val := by rw [← sent_part, ← hgi, hj]
  have hnext := sent_next d (place c).val
  have hp := pos_at (I := I) c (fun s => sent d (place c) (1024 * s)) rfl (fun s _ => by rw [hnext]; omega)
    (by have := hd.total _ hpl; show sent d (place c) 4096 < _; omega)
    (fun s => by rw [tot_at h, he]; congr 1; show _ = sent d (place c) (1024 * (s.val + 1)) - _; rw [hnext]; omega) s j
    (by show _ ∧ _ < sent d (place c) (1024 * (s.val + 1)); rw [hnext]; constructor <;> omega)
  have hr : j.val - sent d (place c) (1024 * s.val) = sent (part d s.val) (place c) i := by omega
  rw [hr] at hp
  rw [out_of_pos c s j k ⟨sent (part d s.val) (place c) i, by omega⟩ hp]
  refine blk_at h (mate c s) (fun r hr => by rw [he]; exact hd.fits _ s.isLt _ hr) (place c) i (by rw [he]; exact hpart) _ ?_ k
  rw [he]

end Cert.Proof
-- ==== Proof.Mask.lean ====
/-
What the mask says of the destinations: each is one of the four ranks, each rank gets 1024 rows, and no block sends a rank
more than 288.
-/
module

public import proofs.«01_k».proof.On_routable
public import proofs.«01_k».proof.Proof.Ranks
public import Idealize.ShloMosaic.Lib.Pointwise
public import Idealize.ShloMosaic.Lib.WordCmp
public import Idealize.ShloMosaic.Lib.IndicatorCount
public import Idealize.ShloMosaic.Lib.ReduceAll
public import Idealize.ShloMosaic.Lib.Tactic.WordOmega

@[expose] public section

noncomputable section

namespace Cert.Proof

open Idealize.ShloMosaic WordCmp
open Cert.On_routable

/-- The shapes in the mask fit together. -/
instance mask_facts : Cert.On_routable.Facts where
  bcast_S_S4096 := by decide
  natLt_1_32 := by decide
  reducesTo_S4096_S_d0 := by decide
  h_S_ := by decide
  shapeCasts_S_S1 := by decide
  concatenates_S1_S1_S1_S1_S4_d0 := by decide
  shapeCasts_S4096_S4x1024 := by decide
  bcast_S_S4x1024 := by decide
  reducesTo_S4x1024_S4_d1 := by decide
  concatenates_S4_S4_S4_S4_S16_d0 := by decide
  bcast_S_S4 := by decide
  reducesTo_S4_S_d0 := by decide
  bcast_S_S16 := by decide
  reducesTo_S16_S_d0 := by decide
  bcast_S_S4096x512 := by decide

/-- The rows' destinations as numbers. -/
def dest (w : IVec S4096 32) (k : ℕ) : ℕ := if hk : k < 4096 then (w (ix1 ⟨k, hk⟩)).toNat else 0

theorem dest_at (w : IVec S4096 32) (k : Fin 4096) : dest w k = (w (ix1 k)).toNat := dif_pos k.isLt

theorem word_at (w : IVec S4096 32) (k : Fin 4096) : w (ix1 k) = BitVec.ofNat 32 (dest w k) := by
  rw [dest_at, BitVec.ofNat_toNat, BitVec.setWidth_eq]

/-- Among the rows from a block's first on, the ones for a rank, counted in a word. -/
theorem count_word (w : IVec S4096 32) (r b n : ℕ) (hr : r < 4) (f : Fin n → Fin 4096) (hf : ∀ x, (f x).val = b + x.val) :
    Finset.univ.fold IntOp.addi 0#32 (fun x => BitVec.setWidth 32 (IntOp.cmpi .eq (w (ix1 (f x))) (BitVec.ofNat 32 r)))
      = BitVec.ofNat 32 (sent (fun k => dest w (b + k)) r n) := by
  rw [IndicatorCount.fold_addi_setWidth_eq_card]
  unfold sent
  rw [← Routing.card_filter_fin]
  congr 2
  refine Finset.filter_congr fun x _ => ?_
  have := (w (ix1 (f x))).isLt
  show _ ↔ dest w (b + x.val) = r
  rw [word_at w (f x), ← hf, cmpi_eq_ofNat_eq_one_iff (by rw [dest_at]; omega) (by omega)]

/-- If a conjunction over all places holds, its condition holds at each place. -/
theorem all_of_fold {n : ℕ} (p : Fin n → BitVec 1) (h : Finset.univ.fold IntOp.andi 1#1 p = 1#1) (x : Fin n) : p x = 1#1 := by
  have g : ∀ S : Finset (Fin n), S.fold IntOp.andi 1#1 p = 1#1 → ∀ x ∈ S, p x = 1#1 := fun S => by
    induction S using Finset.induction_on with
    | empty => exact fun _ x hx => absurd hx (Finset.notMem_empty x)
    | insert a S ha ih =>
      rw [Finset.fold_insert ha]
      intro q x hx
      obtain ⟨q₁, q₂⟩ := IntOp.andi_eq_one.1 q
      rcases Finset.mem_insert.1 hx with rfl | hx
      · exact q₁
      · exact ih q₂ x hx
  exact g _ h x (Finset.mem_univ x)

theorem rank_of_word (v : BitVec 32) (g : IntOp.cmpi .sge v 0#32 = 1#1) (l : IntOp.cmpi .slt v 4#32 = 1#1) : v.toNat < 4 := by
  word_omega

/-- Where the mask holds, the destinations are as the problem asks. -/
theorem routed_of_mask (x : FVec Ideal S4096x512 .bf16) (w : IVec S4096 32) (i : S4096x512.Idx) (h : fn x w i = 1#1) : Routed (dest w) := by
  pointwise [fn, fn_part1, fn_part2, fn_part3] at h
  obtain ⟨h, hF⟩ := IntOp.andi_eq_one.1 h
  obtain ⟨h, hT⟩ := IntOp.andi_eq_one.1 h
  obtain ⟨hG, hL⟩ := IntOp.andi_eq_one.1 h
  have total : ∀ r < 4, IntOp.cmpi .eq (Finset.univ.fold IntOp.addi 0#32 (fun x : Fin 4096 => BitVec.setWidth 32 (IntOp.cmpi .eq (w (ix1 x)) (BitVec.ofNat 32 r)))) 1024#32 = 1#1
      → sent (dest w) r 4096 = 1024 := fun r hr q => by
    rw [count_word w r 0 4096 hr (fun x => x) fun x => (Nat.zero_add _).symm] at q
    simp only [Nat.zero_add] at q
    change IntOp.cmpi .eq (BitVec.ofNat 32 (sent (dest w) r 4096)) (BitVec.ofNat 32 1024) = 1#1 at q
    have hb : sent (dest w) r 4096 ≤ 4096 := Nat.count_le _
    rwa [cmpi_eq_ofNat_eq_one_iff (by omega) (by omega)] at q
  have fits : ∀ r < 4, ∀ s, ∀ f : Fin 1024 → Fin 4096, (∀ x, (f x).val = 1024 * s + x.val) →
      IntOp.cmpi .sle (Finset.univ.fold IntOp.addi 0#32 (fun x => BitVec.setWidth 32 (IntOp.cmpi .eq (w (ix1 (f x))) (BitVec.ofNat 32 r)))) 288#32 = 1#1
      → sent (part (dest w) s) r 1024 ≤ 288 := fun r hr s f hf q => by
    rw [count_word w r (1024 * s) 1024 hr f hf] at q
    change IntOp.cmpi .sle (BitVec.ofNat 32 (sent (part (dest w) s) r 1024)) (BitVec.ofNat 32 288) = 1#1 at q
    have hb : sent (part (dest w) s) r 1024 ≤ 1024 := Nat.count_le _
    rwa [cmpi_sle_ofNat_eq_one_iff (by omega) (by omega)] at q
  refine ⟨fun k hk => ?_, fun r hr => ?_, fun s hs r hr => ?_⟩
  · have g := all_of_fold _ hG ⟨k, hk⟩
    have l := all_of_fold _ hL ⟨k, hk⟩
    rw [dest_at w ⟨k, hk⟩]
    exact rank_of_word _ g l
  · have c : r = 0 ∨ r = 1 ∨ r = 2 ∨ r = 3 := by omega
    rcases c with rfl | rfl | rfl | rfl
    · exact total 0 hr (all_of_fold _ hT 0)
    · exact total 1 hr (all_of_fold _ hT 1)
    · exact total 2 hr (all_of_fold _ hT 2)
    · exact total 3 hr (all_of_fold _ hT 3)
  · have c : r = 0 ∨ r = 1 ∨ r = 2 ∨ r = 3 := by omega
    have q := all_of_fold _ hF ⟨4 * r + s, by omega⟩
    rcases c with rfl | rfl | rfl | rfl
    · rw [dif_pos (by show 4 * 0 + s < 4; omega)] at q
      exact fits 0 hr s _ (fun x => by show (4 * 0 + s) * 1024 + x.val = _; omega) q
    · rw [dif_neg (by show ¬4 * 1 + s < 4; omega), dif_pos (by show 4 * 1 + s - 4 < 4; omega)] at q
      exact fits 1 hr s _ (fun x => by show (4 * 1 + s - 4) * 1024 + x.val = _; omega) q
    · rw [dif_neg (by show ¬4 * 2 + s < 4; omega), dif_neg (by show ¬4 * 2 + s - 4 < 4; omega), dif_pos (by show 4 * 2 + s - 4 - 4 < 4; omega)] at q
      exact fits 2 hr s _ (fun x => by show (4 * 2 + s - 4 - 4) * 1024 + x.val = _; omega) q
    · rw [dif_neg (by show ¬4 * 3 + s < 4; omega), dif_neg (by show ¬4 * 3 + s - 4 < 4; omega), dif_neg (by show ¬4 * 3 + s - 4 - 4 < 4; omega)] at q
      exact fits 3 hr s _ (fun x => by show (4 * 3 + s - 4 - 4 - 4) * 1024 + x.val = _; omega) q

end Cert.Proof
-- ==== Proof.Inputs.lean ====
/-
What the kernel reads, by the two argument arrays. Its windows cover whole arrays: the first is the device's rows, and the
other two are the device's destinations, reshaped once to a row and once to a column. A device at place `p` of its group
holds rows `1024 p` to `1024 p + 1023` of the whole arrays.
-/
module

public import proofs.«01_k».proof.Proof.Values
public import proofs.«01_k».proof.Proof.Mask
public import proofs.«01_k».proof.Proof.Gen.KernelIdeal.Frame

@[expose] public section

noncomputable section

namespace Cert.Proof

open Idealize.ShloMosaic Idealize.ShloMosaic.TcCoe
open Cert.KernelIdeal Cert.KernelIdeal.Gen

/-! ## The windows -/

section Windows

variable (m : (ℓ : Loc nD τ sig) → Buf (Elt Ideal) ℓ) (c : Dev nD)

theorem first_0 : win0_0.index t0_0 = ![0, 0] := by decide +kernel
theorem first_1 : win0_1.index t0_0 = ![0, 0] := by decide +kernel
theorem first_2 : win0_2.index t0_0 = ![0, 0] := by decide +kernel

theorem x_read : (ins m).x c = m ((c : Thread nD τ).loc main_arg0) := by
  refine Eq.trans (b := V m c main_arg0) (funext fun j => ?_) (V_main_arg0 m c)
  show iblk m c 0 t0_0 j = _
  unfold iblk
  blk_simp; exact congrArg _ (by blk_ext [first_0])

/-- The destinations reshaped to a row. -/
theorem row_read : (ins m).row c = shapeCast S1x1024 (m ((c : Thread nD τ).loc main_arg1)) shapeCasts_S1024_S1x1024 := by
  refine Eq.trans (b := V m c main_v1) (funext fun j => ?_) ?_
  · show iblk m c 1 t0_0 j = _
    unfold iblk
    blk_simp; exact congrArg _ (by blk_ext [first_1])
  · unfold V
    after_results <;> rfl

/-- The destinations reshaped to a column. -/
theorem col_read : (ins m).col c = shapeCast S1024x1 (m ((c : Thread nD τ).loc main_arg1)) shapeCasts_S1024_S1024x1 := by
  refine Eq.trans (b := V m c main_v2) (funext fun j => ?_) ?_
  · show iblk m c 2 t0_0 j = _
    unfold iblk
    blk_simp; exact congrArg _ (by blk_ext [first_2])
  · unfold V
    after_results <;> rfl

end Windows

theorem row_at (v : IVec S1024 32) (i : Fin 1024) : shapeCast S1x1024 v shapeCasts_S1024_S1x1024 (ix2 0 i) = v (ix1 i) := by
  pointwise

theorem col_at (v : IVec S1024 32) (i : Fin 1024) : shapeCast S1024x1 v shapeCasts_S1024_S1024x1 (ix2 i 0) = v (ix1 i) := by
  pointwise

/-! ## The parts of the whole arrays -/

/-- Row `i` of the part that a device at place `p` holds. -/
def whole_row (p : Fin 4) (i : Fin 1024) : Fin 4096 := ⟨1024 * p.val + i.val, by omega⟩

theorem along (c : Dev nD) : Layout.meshLin [2, 4, 4] c.val [2] = c.val % 4 := by
  simp [Layout.meshLin, Layout.meshCoord, Layout.cutSize]

theorem rows_idx (c : Dev nD) (h : Layout.TilesN (⟨2, ![1024, 512]⟩ : Shape) ⟨2, ![4096, 512]⟩ fun b => Layout.cutSize [2, 4, 4] (![[2], []] b)) (i : Fin 1024) (k : Fin 512) :
    h.idx (Layout.meshBlock [2, 4, 4] ![[2], []] c) (ix2 i k) = ix2 (whole_row (place c) i) k := by
  funext b
  refine Fin.ext ?_
  rw [Layout.TilesN.idx_val, Layout.meshBlock_val]
  match b with
  | 0 => show Layout.meshLin [2, 4, 4] c.val [2] * 1024 + i.val = 1024 * (c.val % 4) + i.val; rw [along, Nat.mul_comm]
  | 1 => show 0 * 512 + k.val = k.val; omega

theorem dests_idx (c : Dev nD) (h : Layout.TilesN (⟨1, ![1024]⟩ : Shape) ⟨1, ![4096]⟩ fun b => Layout.cutSize [2, 4, 4] (![[2]] b)) (i : Fin 1024) :
    h.idx (Layout.meshBlock [2, 4, 4] ![[2]] c) (ix1 i) = ix1 (whole_row (place c) i) := by
  funext b
  refine Fin.ext ?_
  rw [Layout.TilesN.idx_val, Layout.meshBlock_val]
  match b with
  | 0 => show Layout.meshLin [2, 4, 4] c.val [2] * 1024 + i.val = 1024 * (c.val % 4) + i.val; rw [along, Nat.mul_comm]

/-- Where each device holds its part of the destinations, the kernel reads those of its rows. -/
theorem dests_of_parts (m : (ℓ : Loc nD τ sig) → Buf (Elt Ideal) ℓ) (w : IVec Cert.On_routable.S4096 32) (hd : Routed (dest w))
    (hw : ∀ (c : Dev nD) (i : Fin 1024), m ((c : Thread nD τ).loc main_arg1) (ix1 i) = w (ix1 (whole_row (place c) i))) :
    Dests (ins m) fun c => part (dest w) (place c).val where
  row c i := by rw [row_read, row_at]; exact (hw c i).trans (word_at w (whole_row (place c) i))
  col c i := by rw [col_read, col_at]; exact (hw c i).trans (word_at w (whole_row (place c) i))
  lt c i hi := hd.lt _ (by have := (place c).isLt; omega)

end Cert.Proof
-- ==== Proof.Reference.lean ====
/-
What the reference returns: row `p` is the row at position `p` of the stable sort by destination.
-/
module

public import proofs.«01_k».proof.Proof.Gen.ReferenceIdeal.Run
public import proofs.«01_k».proof.Proof.Mask
public import Idealize.ShloMosaic.Lib.Routing.Ops
public import Idealize.ShloMosaic.Lib.Routing.SortLink

@[expose] public section

noncomputable section

namespace Cert.Proof

open Idealize.ShloMosaic WordCmp
open Cert.ReferenceIdeal Cert.ReferenceIdeal.Gen

/-- What a sort of pairs along a vector leaves in its second place. -/
theorem sort2_second {n : ℕ} {α β : Type} (cmp : α × β → α × β → BitVec 1) (x : (⟨1, ![n]⟩ : Shape).Idx → α) (y : (⟨1, ![n]⟩ : Shape).Idx → β) (p : Fin n) :
    (Host.sort2 ⟨1, ![n]⟩ 0 cmp x y).2 (ix1 p)
      = y (ix1 (sortedFrom (fun a b => cmp (x (ix1 a), y (ix1 a)) (x (ix1 b), y (ix1 b)) == 1#1) p)) := by
  have hd : 0 < (⟨1, ![n]⟩ : Shape).rank := Nat.one_pos
  have e : ∀ (j : (⟨1, ![n]⟩ : Shape).Idx) (k : Fin n), j.along (⟨0, hd⟩ : Fin (⟨1, ![n]⟩ : Shape).rank) k = ix1 k := fun j k => by
    refine (Shape.Idx.along_rank1 j k).trans (funext fun a => ?_)
    obtain rfl : a = 0 := Subsingleton.elim _ _
    rfl
  have s : sortedFrom (n := n) (fun a b : Fin n => cmp (x ((ix1 p).along ⟨0, hd⟩ a), y ((ix1 p).along ⟨0, hd⟩ a))
      (x ((ix1 p).along ⟨0, hd⟩ b), y ((ix1 p).along ⟨0, hd⟩ b)) == 1#1) p
      = sortedFrom (fun a b => cmp (x (ix1 a), y (ix1 a)) (x (ix1 b), y (ix1 b)) == 1#1) p := by
    congr 1
    funext a b
    rw [e _ a, e _ b]
  unfold Host.sort2
  rw [dif_pos hd]
  exact (congrArg (fun c : Fin n => y ((ix1 p).along ⟨0, hd⟩ c)) s).trans (congrArg y (e _ _))

/-- The order of the rows: position `p` holds the number of the row that the stable sort by destination puts there. -/
theorem order_at (w : IVec S4096 32) (hd : Routed (dest w)) (p : Fin 4096) :
    (Host.sort2 S4096 0 comparator_i32_i32_d0 w (iotaInDim S4096 32 0)).2 (ix1 p) = BitVec.ofNat 32 (sortedRow (dest w) p).val := by
  rw [sort2_second]
  have e : (fun a b : Fin 4096 => comparator_i32_i32_d0 (w (ix1 a), iotaInDim S4096 32 0 (ix1 a)) (w (ix1 b), iotaInDim S4096 32 0 (ix1 b)) == 1#1)
      = fun a b : Fin 4096 => decide (dest w a < dest w b) := by
    funext a b
    have ha := hd.lt a a.isLt
    have hb := hd.lt b b.isLt
    rw [Bool.eq_iff_iff, beq_iff_eq, decide_eq_true_iff]
    show IntOp.cmpi .slt (w (ix1 a)) (w (ix1 b)) = 1#1 ↔ _
    rw [word_at w a, word_at w b, cmpi_slt_ofNat_eq_one_iff (by omega) (by omega)]
  rw [e]
  rfl

/-- The reference's result from its two arguments. -/
def ordered (x : FVec Ideal S4096x512 .bf16) (w : IVec S4096 32) : FVec Ideal S4096x512 .f32 :=
  extf .f32 (Host.gather gather_S4096x512_S4096x1_S4096x512_1_0_n_n_0_1_1512 x (broadcastInDim S4096x1 ![0] bcast_S4096_S4096x1_0
    (select (cmpi .slt ((Host.sort2 S4096 0 comparator_i32_i32_d0 w (iotaInDim S4096 32 0)).2) (broadcastInDim S4096 ![] bcast_S_S4096 (constantI S_ 32 0#32)))
      (addi ((Host.sort2 S4096 0 comparator_i32_i32_d0 w (iotaInDim S4096 32 0)).2) (broadcastInDim S4096 ![] bcast_S_S4096 (constantI S_ 32 4096#32)))
      ((Host.sort2 S4096 0 comparator_i32_i32_d0 w (iotaInDim S4096 32 0)).2)))) bitsLt_bf16_f32

theorem ordered_at (x : FVec Ideal S4096x512 .bf16) (w : IVec S4096 32) (hd : Routed (dest w)) (p : Fin 4096) (k : Fin 512) :
    ordered x w (ix2 p k) = x (ix2 (sortedRow (dest w) p) k) := by
  have o := order_at w hd p
  have hs := (sortedRow (dest w) p).isLt
  unfold ordered
  generalize (Host.sort2 S4096 0 comparator_i32_i32_d0 w (iotaInDim S4096 32 0)).2 = ord at o ⊢
  refine Eq.trans ?_ (Routing.gather_row (nb := 4096) (B := 512) (n := 4096) gather_S4096x512_S4096x1_S4096x512_1_0_n_n_0_1_1512 rfl rfl rfl rfl rfl x
    (broadcastInDim S4096x1 ![0] bcast_S4096_S4096x1_0 (select (cmpi .slt ord (broadcastInDim S4096 ![] bcast_S_S4096 (constantI S_ 32 0#32)))
      (addi ord (broadcastInDim S4096 ![] bcast_S_S4096 (constantI S_ 32 4096#32))) ord)) p k (sortedRow (dest w) p) ?_ (by omega))
  · rfl
  · rw [← ix2_eq_valueIdx]
    pointwise
    rw [o]
    word_omega

end Cert.Proof
-- ==== Proof.Equation.lean ====
/-
The equation: where the mask holds, row `j` that a device at place `p` ends with is row `1024 p + j` of the reference. Both
are the row that comes there when the rows are put in the order of their destinations.
-/
module

public import proofs.«01_k».proof.Defs
public import proofs.«01_k».proof.Proof.Inputs
public import proofs.«01_k».proof.Proof.Reference

@[expose] public section

noncomputable section

namespace Cert.Proof

open Idealize.ShloMosaic Idealize.ShloMosaic.TcCoe Idealize.SL.Sem
open Cert.KernelIdeal Cert.KernelIdeal.Gen

/-- What the kernel's result holds, by the whole arrays. -/
theorem out_rows (m : (ℓ : Loc nD τ sig) → Buf (Elt Ideal) ℓ) (x : FVec Ideal Cert.ReferenceIdeal.S4096x512 .bf16) (w : IVec Cert.ReferenceIdeal.S4096 32) (hd : Routed (dest w))
    (hx : ∀ (c : Dev nD) (i : Fin 1024) (k : Fin 512), m ((c : Thread nD τ).loc main_arg0) (ix2 i k) = x (ix2 (whole_row (place c) i) k))
    (hw : ∀ (c : Dev nD) (i : Fin 1024), m ((c : Thread nD τ).loc main_arg1) (ix1 i) = w (ix1 (whole_row (place c) i)))
    (c : Dev nD) (j : Fin 1024) (k : Fin 512) : out (ins m) c (ix2 j k) = ordered x w (ix2 (whole_row (place c) j) k) := by
  have hs := sorted_place hd (whole_row (place c) j)
  have hp : (whole_row (place c) j).val / 1024 = (place c).val := by
    show (1024 * (place c).val + j.val) / 1024 = _
    omega
  have hq : (whole_row (place c) j).val % 1024 = j.val := by
    show (1024 * (place c).val + j.val) % 1024 = _
    omega
  rw [hp, hq] at hs
  rw [ordered_at x w hd, out_at (dests_of_parts m w hd hw) c hd (fun s => by rw [place_mate]) _ hs.1 j hs.2 k, x_read, hx, place_mate]
  exact congrArg (fun r => x (ix2 r k)) (Fin.ext (Nat.div_add_mod _ 1024))

theorem kernel_is_reference : Cert.algebraic_KernelIdeal_ReferenceIdeal_on_routable (hOn_routable := mask_facts) := fun m ρ m' ρ' _ hparts => by
  refine ⟨ordered (m' (((0 : Dev Cert.ReferenceIdeal.nD).tc).loc Cert.ReferenceIdeal.main_arg0)) (m' (((0 : Dev Cert.ReferenceIdeal.nD).tc).loc Cert.ReferenceIdeal.main_arg1)), ?_, ?_⟩
  · refine (θ_run Cert.KernelIdeal.defs _ _).mono (fun r h c => ⟨fun i hi => ?_, (h.1 c).2⟩) (run_main (F := Ideal) m ρ)
    have hd := routed_of_mask _ _ _ hi
    rw [(h.1 c).1]
    obtain ⟨j, k, rfl⟩ : ∃ (j : Fin 1024) (k : Fin 512), i = ix2 j k := ⟨i 0, i 1, funext fun b => match b with | 0 => rfl | 1 => rfl⟩
    rw [Layout.blockN_apply, rows_idx]
    exact out_rows m _ _ hd (fun c i k => by rw [(hparts c).1, Layout.blockN_apply, rows_idx])
      (fun c i => by rw [(hparts c).2, Layout.blockN_apply, dests_idx]) c j k
  · exact (θ_run (Cert.ReferenceIdeal.defs (F := Ideal)) _ _).mono (fun r h => ⟨fun i _ => congrFun (h 0).1 i, (h 0).2⟩)
      (Cert.ReferenceIdeal.Value.run (F := Ideal) m' ρ')

end Cert.Proof
-- ==== Proof.lean ====
/-
The claims: each program runs to the end and leaves its arguments and its counters as they were, and where the destinations
are as the problem asks, the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, mask_facts,
    frame_kernel, frame_kernelIdeal, frame_reference, trivial, kernel_is_reference⟩

end Cert.Proof

end
